-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x5x2048x3 : Shape := ⟨4, ![2, 5, 2048, 3]⟩
abbrev S_ : Shape := ⟨0, ![]⟩

class Facts : Prop where
  bcast_S_S2x5x2048x3 : S_.BroadcastsInDim S2x5x2048x3 (![] : Fin 0 → Fin S2x5x2048x3.rank)

variable [Facts]

def fn {F : FTy → Type} [FloatOps F] (main_arg0 : FVec F S2x5x2048x3 .f32) (main_arg1 : FVec F S2x5x2048x3 .f32) (main_arg2 : IVec S_ 32) : IVec S2x5x2048x3 1 × IVec S2x5x2048x3 1 :=
  let main_v0 : FVec F S2x5x2048x3 .f32 := Host.absf main_arg0
  let main_cst : FVec F S_ .f32 := constant S_ .f32 0x7F800000#32
  let main_v1 : FVec F S2x5x2048x3 .f32 := broadcastInDim S2x5x2048x3 ![] bcast_S_S2x5x2048x3 main_cst
  let main_v2 : IVec S2x5x2048x3 1 := cmpf .olt main_v0 main_v1
  let main_v3 : FVec F S2x5x2048x3 .f32 := Host.absf main_arg1
  let main_cst_0 : FVec F S_ .f32 := constant S_ .f32 0x7F800000#32
  let main_v4 : FVec F S2x5x2048x3 .f32 := broadcastInDim S2x5x2048x3 ![] bcast_S_S2x5x2048x3 main_cst_0
  let main_v5 : IVec S2x5x2048x3 1 := cmpf .olt main_v3 main_v4
  (main_v2, main_v5)
-- ==== Kernel.lean ====
abbrev S2x5x2048x3 : Shape := ⟨4, ![2, 5, 2048, 3]⟩
abbrev S_ : Shape := ⟨0, ![]⟩
abbrev S10x2048x3 : Shape := ⟨3, ![10, 2048, 3]⟩
abbrev S10x3x2048 : Shape := ⟨3, ![10, 3, 2048]⟩
abbrev S10x5x2048 : Shape := ⟨3, ![10, 5, 2048]⟩
abbrev S10x8x2048 : Shape := ⟨3, ![10, 8, 2048]⟩
abbrev S10x2048 : Shape := ⟨2, ![10, 2048]⟩
abbrev S10x1x2048 : Shape := ⟨3, ![10, 1, 2048]⟩
abbrev S10x1 : Shape := ⟨2, ![10, 1]⟩
abbrev S10 : Shape := ⟨1, ![10]⟩
abbrev S1x8x2048 : Shape := ⟨3, ![1, 8, 2048]⟩
abbrev S1x1x2048 : Shape := ⟨3, ![1, 1, 2048]⟩
abbrev S8x2048 : Shape := ⟨2, ![8, 2048]⟩
abbrev S1x2048 : Shape := ⟨2, ![1, 2048]⟩
abbrev S2048 : Shape := ⟨1, ![2048]⟩
abbrev S8x256 : Shape := ⟨2, ![8, 256]⟩
abbrev S256 : Shape := ⟨1, ![256]⟩
abbrev S256x2048 : Shape := ⟨2, ![256, 2048]⟩
abbrev S1x256 : Shape := ⟨2, ![1, 256]⟩
abbrev S1 : Shape := ⟨1, ![1]⟩
abbrev S1x1 : Shape := ⟨2, ![1, 1]⟩
abbrev S256x1 : Shape := ⟨2, ![256, 1]⟩
abbrev S2x5 : Shape := ⟨2, ![2, 5]⟩
abbrev S5x2 : Shape := ⟨2, ![5, 2]⟩
abbrev S5 : Shape := ⟨1, ![5]⟩

abbrev nBuf : Space → Nat
  | .hbm => 34
  | .vmem => 8
  | .smem => 1
  | _ => 0

abbrev bufTy : (tb : Table) → Fin (tcTables nBuf tb) → BufTy
  | .hbm, ⟨0, _⟩ => ⟨S2x5x2048x3, .f32⟩
  | .hbm, ⟨1, _⟩ => ⟨S2x5x2048x3, .f32⟩
  | .hbm, ⟨2, _⟩ => ⟨S_, .i32⟩
  | .hbm, ⟨3, _⟩ => ⟨S10x2048x3, .f32⟩
  | .hbm, ⟨4, _⟩ => ⟨S10x2048x3, .f32⟩
  | .hbm, ⟨5, _⟩ => ⟨S10x3x2048, .f32⟩
  | .hbm, ⟨6, _⟩ => ⟨S10x3x2048, .f32⟩
  | .hbm, ⟨7, _⟩ => ⟨S_, .f32⟩
  | .hbm, ⟨8, _⟩ => ⟨S10x5x2048, .f32⟩
  | .hbm, ⟨9, _⟩ => ⟨S_, .f32⟩
  | .hbm, ⟨10, _⟩ => ⟨S10x3x2048, .f32⟩
  | .hbm, ⟨11, _⟩ => ⟨S10x3x2048, .f32⟩
  | .hbm, ⟨12, _⟩ => ⟨S10x8x2048, .f32⟩
  | .hbm, ⟨13, _⟩ => ⟨S10x8x2048, .f32⟩
  | .hbm, ⟨14, _⟩ => ⟨S10x2048x3, .f32⟩
  | .hbm, ⟨15, _⟩ => ⟨S_, .f32⟩
  | .hbm, ⟨16, _⟩ => ⟨S10x2048, .f32⟩
  | .hbm, ⟨17, _⟩ => ⟨S10x1x2048, .f32⟩
  | .hbm, ⟨18, _⟩ => ⟨S10x2048x3, .f32⟩
  | .hbm, ⟨19, _⟩ => ⟨S_, .f32⟩
  | .hbm, ⟨20, _⟩ => ⟨S10x2048, .f32⟩
  | .hbm, ⟨21, _⟩ => ⟨S10x1x2048, .f32⟩
  | .hbm, ⟨22, _⟩ => ⟨S10x1, .f32⟩
  | .hbm, ⟨23, _⟩ => ⟨S10, .f32⟩
  | .hbm, ⟨24, _⟩ => ⟨S_, .f32⟩
  | .hbm, ⟨25, _⟩ => ⟨S10, .f32⟩
  | .hbm, ⟨26, _⟩ => ⟨S10, .f32⟩
  | .hbm, ⟨27, _⟩ => ⟨S2x5, .f32⟩
  | .hbm, ⟨28, _⟩ => ⟨S5x2, .f32⟩
  | .hbm, ⟨29, _⟩ => ⟨S_, .f32⟩
  | .hbm, ⟨30, _⟩ => ⟨S5, .f32⟩
  | .hbm, ⟨31, _⟩ => ⟨S_, .f32⟩
  | .hbm, ⟨32, _⟩ => ⟨S5, .f32⟩
  | .hbm, ⟨33, _⟩ => ⟨S5, .f32⟩
  | .local _ .vmem, ⟨0, _⟩ => ⟨S1x8x2048, .f32⟩
  | .local _ .vmem, ⟨1, _⟩ => ⟨S1x8x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .smem, ⟨0, _⟩ => ⟨S10x1, .f32⟩
  | _, _ => ⟨S2x5x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_cst_0 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_2 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![10], ![false]⟩

def k0_off1 (i : grid0.Coords) : Fin 2 → Nat :=
  let arg0 : BitVec 32 := BitVec.ofNat 32 (i 0).val
  let v179 : Index := Scalar.indexCast arg0
  let c0_54 : Index := 0#32
  ![v179.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S10x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2x5x2048x3 : Shape := ⟨4, ![2, 5, 2048, 3]⟩
abbrev S_ : Shape := ⟨0, ![]⟩
abbrev S2x5x2048 : Shape := ⟨3, ![2, 5, 2048]⟩
abbrev S2x5x2048x1 : Shape := ⟨4, ![2, 5, 2048, 1]⟩
abbrev S2x5x1x2048 : Shape := ⟨4, ![2, 5, 1, 2048]⟩
abbrev S2x5x2048x2048 : Shape := ⟨4, ![2, 5, 2048, 2048]⟩
abbrev S2x5 : Shape := ⟨2, ![2, 5]⟩
abbrev S5x2 : Shape := ⟨2, ![5, 2]⟩
abbrev S5 : Shape := ⟨1, ![5]⟩

abbrev nBuf : Space → Nat
  | .hbm => 43
  | .vmem => 0
  | .smem => 0
  | _ => 0

abbrev bufTy : (tb : Table) → Fin (tcTables nBuf tb) → BufTy
  | .hbm, ⟨0, _⟩ => ⟨S2x5x2048x3, .f32⟩
  | .hbm, ⟨1, _⟩ => ⟨S2x5x2048x3, .f32⟩
  | .hbm, ⟨2, _⟩ => ⟨S_, .i32⟩
  | .hbm, ⟨3, _⟩ => ⟨S2x5x2048x3, .f32⟩
  | .hbm, ⟨4, _⟩ => ⟨S_, .f32⟩
  | .hbm, ⟨5, _⟩ => ⟨S2x5x2048, .f32⟩
  | .hbm, ⟨6, _⟩ => ⟨S2x5x2048x1, .f32⟩
  | .hbm, ⟨7, _⟩ => ⟨S2x5x2048x3, .f32⟩
  | .hbm, ⟨8, _⟩ => ⟨S_, .f32⟩
  | .hbm, ⟨9, _⟩ => ⟨S2x5x2048, .f32⟩
  | .hbm, ⟨10, _⟩ => ⟨S2x5x1x2048, .f32⟩
  | .hbm, ⟨11, _⟩ => ⟨S2x5x2048x2048, .f32⟩
  | .hbm, ⟨12, _⟩ => ⟨S2x5x2048x2048, .f32⟩
  | .hbm, ⟨13, _⟩ => ⟨S2x5x2048x2048, .f32⟩
  | .hbm, ⟨14, _⟩ => ⟨S2x5x2048x2048, .f32⟩
  | .hbm, ⟨15, _⟩ => ⟨S_, .f32⟩
  | .hbm, ⟨16, _⟩ => ⟨S2x5x2048x2048, .f32⟩
  | .hbm, ⟨17, _⟩ => ⟨S2x5x2048x2048, .f32⟩
  | .hbm, ⟨18, _⟩ => ⟨S2x5x2048x2048, .f32⟩
  | .hbm, ⟨19, _⟩ => ⟨S_, .f32⟩
  | .hbm, ⟨20, _⟩ => ⟨S2x5x2048x2048, .f32⟩
  | .hbm, ⟨21, _⟩ => ⟨S2x5x2048x2048, .f32⟩
  | .hbm, ⟨22, _⟩ => ⟨S_, .f32⟩
  | .hbm, ⟨23, _⟩ => ⟨S2x5x2048, .f32⟩
  | .hbm, ⟨24, _⟩ => ⟨S_, .f32⟩
  | .hbm, ⟨25, _⟩ => ⟨S2x5x2048, .f32⟩
  | .hbm, ⟨26, _⟩ => ⟨S_, .f32⟩
  | .hbm, ⟨27, _⟩ => ⟨S2x5, .f32⟩
  | .hbm, ⟨28, _⟩ => ⟨S_, .f32⟩
  | .hbm, ⟨29, _⟩ => ⟨S2x5, .f32⟩
  | .hbm, ⟨30, _⟩ => ⟨S2x5, .f32⟩
  | .hbm, ⟨31, _⟩ => ⟨S_, .f32⟩
  | .hbm, ⟨32, _⟩ => ⟨S2x5, .f32⟩
  | .hbm, ⟨33, _⟩ => ⟨S_, .f32⟩
  | .hbm, ⟨34, _⟩ => ⟨S2x5, .f32⟩
  | .hbm, ⟨35, _⟩ => ⟨S2x5, .f32⟩
  | .hbm, ⟨36, _⟩ => ⟨S2x5, .f32⟩
  | .hbm, ⟨37, _⟩ => ⟨S5x2, .f32⟩
  | .hbm, ⟨38, _⟩ => ⟨S_, .f32⟩
  | .hbm, ⟨39, _⟩ => ⟨S5, .f32⟩
  | .hbm, ⟨40, _⟩ => ⟨S_, .f32⟩
  | .hbm, ⟨41, _⟩ => ⟨S5, .f32⟩
  | .hbm, ⟨42, _⟩ => ⟨S5, .f32⟩
  | _, _ => ⟨S2x5x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Proof.Same.lean ====
/- The kernel as written and its idealization are one program: their bodies, calls and host lines agree, for any float
   values, so that a run of the one is a run of the other. -/
module

public import proofs.«01_k».proof.Proof.Gen.Kernel
public import proofs.«01_k».proof.Proof.Gen.KernelIdeal

@[expose] public section

set_option maxRecDepth 16384

noncomputable section

namespace Cert.Same

open Idealize.ShloMosaic Idealize.SL.Sem

variable {F : FTy → Type} [FloatOps F]

/-- The two tables give the call's body at every grid point. -/
theorem bodies : Cert.Kernel.defs₀ (F := F) = Cert.KernelIdeal.defs₀ (F := F) := by
  unfold Cert.Kernel.defs₀ Cert.KernelIdeal.defs₀
  refine congrArg Defs.onTc (funext fun l => funext fun a => ?_)
  obtain rfl : l = 0 := Fin.fin_one_eq_zero l
  obtain ⟨t, s⟩ := a
  rfl

/-- The tables with the pipelined call around the body. -/
theorem tables : Cert.Kernel.defs (F := F) = Cert.KernelIdeal.defs (F := F) := by
  unfold Cert.Kernel.defs Cert.KernelIdeal.defs
  exact congrArg (Pipeline.defs Cert.KernelIdeal.pcfgs) bodies

set_option maxHeartbeats 4000000 in
/-- The two main programs. -/
theorem mains : Cert.Kernel.main (F := F) = Cert.KernelIdeal.main (F := F) := by
  unfold Cert.Kernel.main Cert.KernelIdeal.main
  rfl

end Cert.Same

end
-- ==== Proof.Region.lean ====
/- A run of host lines, one pipelined kernel call and host lines again, for a call whose outputs are known by a
   relation only. What the closing host lines leave is named: it is their effect on the arrays that the call left. -/
module

public import Idealize.ShloMosaic.Lib.Pipeline.FrameSuffix
public import Idealize.ShloMosaic.Lib.Pipeline.ArrRel

@[expose] public section

noncomputable section

namespace Cert.Region

open Idealize.ShloMosaic Idealize.ShloMosaic.TcCoe Idealize.ShloMosaic.Pipeline Idealize.ShloMosaic.Rounds
open Idealize.SL Idealize.SL.RA
open Idealize.SL.BI (sProp bigSep)
open scoped Idealize.SL.BI
open Idealize.SL.BI.BIBase Idealize.SL.BI.Laws Idealize.SL.Sem Idealize.SL.ProofMode

variable {nD : Nat} {τ : Topo} {sig : RefSig} {Val : EltTy → Type} [∀ e, Nonempty (Val e)]
variable {Λ₀ : Idealize.SL.Sem.Labels} {P : Type} [Fintype P] [DecidableEq P]

local notation "𝕄" => MT nD τ sig Unit Val ℕ (UR sig nD τ) ℕ

/-- What core `c` holds when everything has run: the call left some contents `A` in its arrays that the proof data allow,
    and every other buffer holds what the closing lines make of `A` and of the buffers as the call found them. -/
def EndsWith (cfg : Cfg sig Λ₀) (c : Dev nD) (rd : RDat τ Val Unit ℕ (UR sig nD τ) ℕ cfg c) (V₀ : Valuation τ sig Val)
    (opss : List (List (HloOp τ sig Val))) (s : MemSt nD τ sig Val) : Prop :=
  ∃ A : (w : Fin cfg.W) → Buf Val ((cfg.spec w).arr.view.loc (c.tc : Thread nD τ)),
    (∀ w, rd.ArrAt w cfg.N (A w))
      ∧ ∀ b ∈ restRefsP sig Prefetch.none cfg.spec,
          s.mem ((c.tc : Thread nD τ).loc b) = StableHlo.after opss.flatten (withArrays cfg.spec c V₀ A) (Proc.devRef .tc b)

section Open

variable {cfg : Cfg sig Λ₀} {c : Dev nD} (rd : RDat τ Val Unit ℕ (UR sig nD τ) ℕ cfg c)

/-- The arrays after the run, each at some allowed contents, are all the arrays at one allowed family of contents. -/
theorem arraysAt_elim (n : Nat) : (rd.arraysAt n : sProp 𝕄) ⊢ iprop(∃ A, ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w))
    (fun w => (cfg.win w).arr.view.loc (c.tc : Thread nD τ) ↦[(cfg.win w).arr.view.set]{rd.share w} A w)) $$ H
  icases H' with ⟨%hA, H⟩
  iexists A
  isplitr
  · ipureintro; exact fun w => hA w (Finset.mem_univ w)
  iexact H

/-- And back. -/
theorem arraysAt_intro (n : Nat) (A : (w : Fin cfg.W) → Buf Val ((cfg.spec w).arr.view.loc (c.tc : Thread nD τ)))
    (hA : ∀ w, rd.ArrAt w n (A w)) : (rd.arrays A : sProp 𝕄) ⊢ rd.arraysAt n := by
  unfold RDat.arraysAt RDat.arrays
  refine BI.bigSep_mono fun w _ => ?_
  show (((cfg).win w).arr.view.loc (c.tc : Thread nD τ) ↦[((cfg).win w).arr.view.set]{rd.share w} A w : sProp 𝕄)
    ⊢ iprop(∃ F, ⌜rd.ArrAt w n F⌝ ∗ ((cfg).win w).arr.view.loc (c.tc : Thread nD τ) ↦[((cfg).win w).arr.view.set]{rd.share w} F)
  iintro H
  iexists (A w)
  isplitr
  · ipureintro; exact hA w
  iexact H

end Open

variable (cfgs : P → Cfg sig Λ₀) (p : P) (kit : LaunchFacts (nD := nD) (τ := τ) cfgs p)
variable (rdats : (q : P) → (c : Dev nD) → RDat τ Val Unit ℕ (UR sig nD τ) ℕ (cfgs q) c)
variable (defs₀ : Defs nD τ sig Val Λ₀) (𝒱₀ : Variants)

include kit in
/-- Host lines, the call and host lines run to the end from zero counters, leave every counter at zero, and end as
    `EndsWith` says on every core. -/
theorem run
    (m : (ℓ : Loc nD τ sig) → Buf Val ℓ) (g : Dev nD → PrngReg)
    (main : Dev nD → Prog (TpuEff nD τ sig Val (Sig Λ₀ P fun q => ((cfgs q).toPCfg (Val := Val)).Adm) .tc) PUnit)
    (hbody : ∀ c, (rdats p c).BodyObligation defs₀ 𝒱₀ () Set.univ)
    (hshare : ∀ c w, (rdats p c).share w = fullShare) (howed : ∀ c t, (rdats p c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdats p c).A w = V₀ c (Proc.devRef .tc (arrRef (cfgs p).spec w)))
    (hΦ : ∀ c t, (rdats p c).Φ t = ΦA (cfgs p).spec c) :
    θ_run (Pipeline.defs (fun q => Cfg.toPCfg (Val := Val) (cfgs q)) defs₀) (onTc main) (s₀ m g)
      (fun r => (∀ c, EndsWith (cfgs p) c (rdats p c) (V₀ c) opss r.2) ∧ r.2.sem = fun _ => 0) := by
  classical
  have kit₀ := (kit.toP (Val := Val)).to₀
  have hq : ∀ c w, ((cfgs p).spec w).isOut = false → (rdats p c).q w = shareOf (cfgs p).spec w := fun c w hw =>
    (rdats p c).q_eq_shareOf_of_share_full kit.win.arr_inj (hshare c) w hw
  have hbufs : ∀ c A, ((rdats p c).arrays A : sProp 𝕄)
      = arrBufs (cfgs p).spec c (fun b => withArrays (cfgs p).spec c (V₀ c) A (Proc.devRef .tc b)) := fun c A =>
    ((rdats p c).arrBufs_eq_arrays kit₀.sharedIn kit.arr_whole
      (hq c) _ A fun w =>
        (withArrays_arr (cfgs p).spec kit.win.arr_inj c (V₀ c) A w).symm).symm
  exact RDat.θ_run_region_pf_tail_quiescent (fun q => (cfgs q).toPCfg (Val := Val)) (fun q => (cfgs q).toPCfg_adm) rdats ()
    (kit₀.cellOf_inj _) p kit₀.win (OwnSemFacts.none (cfgs p).spec) kit₀.pre emb₁ defs₀ 𝒱₀ m g main
    (fun _ => chain (opss.map StableHlo.seq)) hbody kit₀.block_pos kit₀.arr_whole kit₀.stage_whole howed
    (G := fun _ => iprop(emp)) (u₀ := initOf (cells (pin (fun q => Cfg.toPCfg (Val := Val) (cfgs q)) fun q => (cfgs q).toPCfg_adm) (kit₀.cellOf_inj _))
      (launchToks (pin (fun q => Cfg.toPCfg (Val := Val) (cfgs q)) fun q => (cfgs q).toPCfg_adm) (kit₀.cellOf_inj _)))
    (hu₀ := by
      iintro Hu; imodintro
      isplitl [Hu]
      · iapply (show (ownU _ : sProp 𝕄) ⊢ BI.own (emb₁ (initOf _ _)) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => (rdats p c).arrays_split_shared kit₀.sharedIn kit₀.arr_whole (hq c) _ _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (fun b => V₀ c (Proc.devRef .tc b)))
    (Z' := fun c => iprop(∃ A, ⌜∀ w, (rdats p c).ArrAt w (cfgs p).N (A w)⌝
      ∗ unscopedRestP (Ix := Unit) (Name := ℕ) (U := UR sig nD τ) (Lvl := ℕ) Prefetch.none (cfgs p).spec c
          (fun b => StableHlo.after opss.flatten (withArrays (cfgs p).spec c (V₀ c) A) (Proc.devRef .tc b))))
    (hX := fun c => by
      iintro ⟨HU, -, -, Hp, -⟩; imodintro
      isplitl [Hp]; · iexists _; iexact Hp
      iexact HU)
    (hin := fun c => by
      rw [hΦ]; unfold ΦA
      iintro ⟨Hp, -, Hr⟩
      isplitl [Hr] <;> iassumption)
    (hout := fun c => by
      rw [hΦ, ownSems0_none]; unfold ΦA
      iintro ⟨Hr, Hp⟩
      isplitl [Hp]; · iexact Hp
      isplitr; · iempintro
      iexact Hr)
    (htail := fun c Q' => by
      iintro ⟨Hk, Hb, Ha, HZ⟩
      ihave Ha' := (arraysAt_elim (rdats p c) (cfgs p).N) $$ Ha
      icases Ha' with ⟨%A, %hA', Ha⟩
      iapply (tail_seqs_bufs_b (fun q => (cfgs q).toPCfg (Val := Val)) defs₀ 𝒱₀ Prefetch.none (cfgs p).spec c (V₀ c) A opss hsub hfresh hkeep Q')
      rw [← hbufs c A]
      isplitl [Hk]
      · iintro ⟨Hb2, Ha2, Hu⟩
        iapply Hk
        isplitl [Hb2]; · iexact Hb2
        isplitl [Ha2]; · iapply (arraysAt_intro (rdats p c) (cfgs p).N A hA'); iexact Ha2
        iexists A; isplitr; · ipureintro; exact hA'
        iexact Hu
      isplitl [Hb]; · iexact Hb
      isplitl [Ha]; · iexact Ha
      iexact HZ)
    (QY := fun c s => EndsWith (cfgs p) c (rdats p c) (V₀ c) opss s)
    (hY := fun c s' => by
      iintro ⟨-, HZ, HSI⟩
      icases HZ with ⟨%A, %hA', HZ⟩
      unfold unscopedRestP
      ihave HZ' := (pointsTo_read_all (restRefsP sig Prefetch.none (cfgs p).spec) (fun b => (c.tc : Thread nD τ).loc b)
        (fun b => StableHlo.after opss.flatten (withArrays (cfgs p).spec c (V₀ c) A) (Proc.devRef .tc b)) s') $$ [HZ HSI]
      · isplitl [HZ] <;> iassumption
      icases HZ' with ⟨%hZ, HSI⟩
      imodintro
      isplitr
      · ipureintro; exact ⟨A, hA', hZ⟩
      · iexact HSI)
    (hQ := fun s h hz => ⟨fun c => (h c).2.2, hz⟩)

end Cert.Region

end
-- ==== Proof.Body.lean ====
/- What one grid point of the kernel body stores: the pair's distance sum, in that pair's row of the result block. -/
module

public import proofs.«01_k».proof.Proof.Gen.KernelIdeal.Skeleton
public import proofs.«01_k».proof.Proof.Gen.KernelIdeal.Launch
public import proofs.«01_k».proof.Proof.Gen.KernelIdeal.Frame
public import Idealize.ShloMosaic.Lib.WritesUnit
public import Idealize.ShloMosaic.Lib.WholeRead

@[expose] public section

set_option maxRecDepth 16384

noncomputable section

namespace Cert.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The number one grid point computes from its four blocks. -/
def pointSum (v0 v2 : Vec F S1x8x2048 .f32) (v4 v7 : Vec F S1x1x2048 .f32) : F .f32 :=
  k0_pay26 (k0_pay1 v0) (k0_pay2 v2) (k0_pay3 v4) (k0_pay4 v7)
    (k0_pay22 (k0_pay1 v0) (k0_pay2 v2) (k0_pay3 v4) (k0_pay4 v7)
      (k0_pay17 (k0_pay1 v0) (k0_pay2 v2) (k0_pay3 v4) (k0_pay4 v7) (k0_pay7 v0 v2 v4 v7) (k0_pay9 v4) (k0_pay11 v0 v2 v7)))
    (k0_pay23 (k0_pay1 v0) (k0_pay2 v2) (k0_pay3 v4)
      (k0_pay14 (k0_pay1 v0) (k0_pay2 v2) (k0_pay3 v4) (k0_pay8 v0 v2 v4) (k0_pay9 v4) (k0_pay10 v0 v2))
      (k0_pay15 (k0_pay3 v4)) (k0_pay16 (k0_pay1 v0) (k0_pay2 v2)))
    (k0_pay24 (k0_pay3 v4)) (k0_pay25 (k0_pay1 v0) (k0_pay2 v2))

/-- A result block with the number `v` put at row `n`. -/
def putRow (n : Nat) (v : F .f32) (X : Vec F S10x1 .f32) : Vec F S10x1 .f32 := fun j => if (j 0).val = n then v else X j

/-- A load of a whole buffer reads all that it holds. -/
theorem load_whole {sp : Space} {s : Shape} {e : EltTy} {arg : Memref sig .tc sp s e} (h : arg.IsWhole) (x : Vec F s e)
    (off : Fin s.rank → ℕ) (inb : ∀ a, off a + s.size a ≤ s.size a) (hoff : ∀ a, off a = 0) :
    arg.view.readAt (Elt F) (Rect.unit (s := s) off s.size inb).toLoadRect (h.unread x) = x := by
  funext j
  rw [h.readAt_unread]
  congr 1
  funext a
  apply Fin.ext
  show off a + 1 * (j a).val = (j a).val
  rw [hoff]; omega

set_option maxHeartbeats 1000000 in
/-- One run of the body: the input blocks stay as they are, and the result block gets the point's number at the point's row. -/
theorem body_triple (c : Dev nD) (i : grid0.Coords) (arg1 : Memref sig .tc .vmem S1x8x2048 .f32) (harg1 : arg1.IsWhole)
    (arg2 : Memref sig .tc .vmem S1x8x2048 .f32) (harg2 : arg2.IsWhole) (arg3 : Memref sig .tc .vmem S1x1x2048 .f32) (harg3 : arg3.IsWhole)
    (arg4 : Memref sig .tc .vmem S1x1x2048 .f32) (harg4 : arg4.IsWhole) (arg5 : Memref sig .tc .smem S10x1 .f32) (harg5 : arg5.IsWhole)
    (x0 x1 : Vec F S1x8x2048 .f32) (x2 x3 : Vec F S1x1x2048 .f32) (X : Vec F S10x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare X
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (putRow (i 0).val (pointSum x0 x1 x2 x3) X)) -∗ K ⟨⟩))
      ⊢ wp frame (wpE (defs₀ (F := F)) Variants.none c none) E (cc0__tc_body i arg1 harg1 arg2 harg2 arg3 harg3 arg4 harg4 arg5 harg5) K := by
  simp only [cc0__tc_body_eq_skeleton]; unfold cc0__tc_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3
  obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr; swap; · iexact H4
  ipureintro
  have hp : pointSum x0 x1 x2 x3 = pointSum
      (arg1.view.readAt (Elt F) (Rect.unit (s := S1x8x2048) ![0, 0, 0] S1x8x2048.size inb_S1x8x2048_S1x8x2048_0_0_0).toLoadRect (harg1.unread x0))
      (arg2.view.readAt (Elt F) (Rect.unit (s := S1x8x2048) ![0, 0, 0] S1x8x2048.size inb_S1x8x2048_S1x8x2048_0_0_0).toLoadRect (harg2.unread x1))
      (arg3.view.readAt (Elt F) (Rect.unit (s := S1x1x2048) ![0, 0, 0] S1x1x2048.size inb_S1x1x2048_S1x1x2048_0_0_0).toLoadRect (harg3.unread x2))
      (arg4.view.readAt (Elt F) (Rect.unit (s := S1x1x2048) ![0, 0, 0] S1x1x2048.size inb_S1x1x2048_S1x1x2048_0_0_0).toLoadRect (harg4.unread x3)) := by
    rw [load_whole harg1, load_whole harg2, load_whole harg3, load_whole harg4] <;> (intro a; fin_cases a <;> rfl)
  rw [hp]
  funext j
  rw [View.read_writes_cons_unit arg5.view _ _ _ _ j (k0_off1_eq i)]
  unfold putRow
  have hj0 : (j 1).val = 0 := by have := (j 1).isLt; simp at this; omega
  by_cases h : (j 0).val = (i 0).val
  · rw [if_pos h, dif_pos]
    · rfl
    · intro a
      fin_cases a
      · simp [h]
      · simp [hj0]
  · rw [if_neg h, dif_neg]
    · rw [View.writes_nil, hf4]
    · intro hall
      have := hall 0
      simp at this
      omega

end Cert.Chamfer

end
-- ==== Proof.Run.lean ====
/- The kernel's run: every core's result block ends with one row per pair of point clouds, and the lines after the call
   turn these ten rows into the two results. -/
module

public import proofs.«01_k».proof.Proof.Region
public import proofs.«01_k».proof.Proof.Body
public import Idealize.ShloMosaic.Lib.Pipeline.DatRel
public import Idealize.ShloMosaic.Lib.Pipeline.ArrRel
public import Idealize.ShloMosaic.Lib.StableHlo.Run
public import Idealize.ShloMosaic.Lib.StableHlo.RunRead

@[expose] public section

set_option maxRecDepth 16384

noncomputable section

namespace Cert.Chamfer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number that point `t` computes from its four blocks. -/
def rowAt (c : Dev nD) (t : Fin cfg0.N) : F .f32 :=
  pointSum (iblk m c 0 t) (iblk m c 1 t) (iblk m c 2 t) (iblk m c 3 t)

/-- A result block whose rows up to `t` are final. -/
def RowsUpTo (c : Dev nD) (t : Fin cfg0.N) (X : Vec F S10x1 .f32) : Prop :=
  ∀ (u : Fin cfg0.N) (j : S10x1.Idx), u.val ≤ t.val → (j 0).val = u.val → X j = rowAt m c u

/-- The one window of which only some rows are known: the result's. -/
def isResult : Fin 5 → Bool := fun w => w.val == 4

/-- What the body leaves in the result's window. -/
def Left (c : Dev nD) : (w : Fin cfg0.W) → Fin cfg0.N → ((cfg0.win w).block.Idx → Elt F (cfg0.win w).elt) → Prop :=
  fun w t X => match w, X with
    | ⟨4, _⟩, X => RowsUpTo m c t X
    | _, _ => True

/-- The proof data: the inputs' blocks stay in place; the result's window is read by `Left` alone. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem dat_A (c : Dev nD) (w : Fin cfg0.W) : (dat m c).A w = V m c (Pipeline.arrRef spec0 w) := by dsimp only [dat]

theorem left0 (c : Dev nD) (t : Fin cfg0.N) : (dat m c).after 0 t = iblk m c 0 t := by dsimp only [dat]
theorem left1 (c : Dev nD) (t : Fin cfg0.N) : (dat m c).after 1 t = iblk m c 1 t := by dsimp only [dat]
theorem left2 (c : Dev nD) (t : Fin cfg0.N) : (dat m c).after 2 t = iblk m c 2 t := by dsimp only [dat]
theorem left3 (c : Dev nD) (t : Fin cfg0.N) : (dat m c).after 3 t = iblk m c 3 t := by dsimp only [dat]

theorem found0 (c : Dev nD) (t : Fin cfg0.N) (d) : (dat m c).before 0 t d = iblk m c 0 t :=
  before0_0_of m (dat m c) (dat_A m c 0) (left0 m c) t d
theorem found1 (c : Dev nD) (t : Fin cfg0.N) (d) : (dat m c).before 1 t d = iblk m c 1 t :=
  before0_1_of m (dat m c) (dat_A m c 1) (left1 m c) t d
theorem found2 (c : Dev nD) (t : Fin cfg0.N) (d) : (dat m c).before 2 t d = iblk m c 2 t :=
  before0_2_of m (dat m c) (dat_A m c 2) (left2 m c) t d
theorem found3 (c : Dev nD) (t : Fin cfg0.N) (d) : (dat m c).before 3 t d = iblk m c 3 t :=
  before0_3_of m (dat m c) (dat_A m c 3) (left3 m c) t d

/-- The proof data with the result's window read by `Left`. -/
abbrev rdat (c : Dev nD) : RDat τ (Elt F) Unit ℕ (UR sig nD τ) ℕ cfg0 c := (dat m c).toRRel isResult (Left m c)

theorem result_not_fetched (t : Fin cfg0.N) : (cfg0.win 4).fetch t = false := by
  revert t; decide +kernel

theorem coords_val : ∀ t : Fin cfg0.N, (grid0.coords t 0).val = t.val := by decide +kernel

/-- The result's window, when point `t` starts, has every earlier row final. -/
theorem found_rows (c : Dev nD) (t : Fin cfg0.N) (Y : Vec F S10x1 .f32) (h : (rdat m c).Finds 4 t Y) :
    ∀ (u : Fin cfg0.N) (j : S10x1.Idx), u.val < t.val → (j 0).val = u.val → Y j = rowAt m c u := by
  intro u j hu hj
  have ht : t.val ≠ 0 := by omega
  have htN : t.val < 10 := N_0 ▸ t.isLt
  rcases ((rdat m c).finds_of_pos (result_not_fetched t) ht Y).mp h with hf | hl
  · have := (flush0_4 _).mp hf
    simp at this
    omega
  · have hR : RowsUpTo m c _ Y := (dat m c).toRRel_leaves (show isResult 4 = true from rfl) hl
    exact hR u j (by simp; omega) hj

/-- Putting row `t` on a block whose earlier rows are final makes the rows up to `t` final. -/
theorem rows_put (c : Dev nD) (t : Fin cfg0.N) (Y : Vec F S10x1 .f32)
    (h : ∀ (u : Fin cfg0.N) (j : S10x1.Idx), u.val < t.val → (j 0).val = u.val → Y j = rowAt m c u) :
    RowsUpTo m c t (putRow (grid0.coords t 0).val (rowAt m c t) Y) := by
  intro u j hu hj
  unfold putRow
  rw [coords_val]
  by_cases e : u = t
  · subst e; rw [if_pos hj]
  · have : u.val ≠ t.val := fun h => e (Fin.ext h)
    rw [if_neg (by omega)]
    exact h u j (by omega) hj

/-- What the body is called with at point `t`, window by window. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ Y, ⌜(rdat m c).Finds 4 t Y⌝ ∗ owns (c : Thread nD τ) (st0_4 t) fullShare Y))

/-- What it returns, window by window. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ (∃ X, ⌜Left m c 4 t X⌝ ∗ owns (c : Thread nD τ) (st0_4 t) fullShare X))

theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3]
  rw [show (dat m c).Φ t.succ = (dat m c).Φ t.castSucc from rfl,
    show (dat m c).owesAt () t.succ = (dat m c).owesAt () t.castSucc from rfl, left0, left1, left2, left3]
  iintro ⟨HΦ, Ho, ⟨%d0, H0⟩, ⟨%d1, H1⟩, ⟨%d2, H2⟩, ⟨%d3, H3⟩, ⟨%Y, %hY, H4⟩⟩
  iapply (body_triple c (grid0.coords t) _ _ _ _ _ _ _ _ _ _ (iblk m c 0 t) (iblk m c 1 t) (iblk m c 2 t) (iblk m c 3 t) Y Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexists _
  isplitr; swap; · iexact H4
  ipureintro
  exact rows_put m c t Y (found_rows m c t Y hY)

theorem body_row (t : Fin cfg0.N) : defs₀ (F := F) .tc cfg0.body (cfg0.bodyArgs t (cfg0.slots t)) = bodyAt0 t := by
  unfold defs₀; rw [Defs.onTc_tc]

theorem body_ok (c : Dev nD) : BodyObligationRel (dat m c) (defs₀ (F := F)) Variants.none () Set.univ isResult (Left m c) := fun t => by
  rw [bigSep_W0, bigSep_W0, body_row]
  exact triple_restated (body_sound m c t) rfl .rfl fun _ => .rfl

set_option backward.isDefEq.respectTransparency.types false in
set_option maxHeartbeats 800000 in
/-- The run, as the proof data tell it. -/
theorem run_rel : θ_run defs (onTc (τ := τ) (main (F := F))) (s₀ m ρ) (fun r =>
    (∀ c, Region.EndsWith cfg0 c (rdat m c) (V0 m c) [hostOps1, hostOps1_1] r.2) ∧ r.2.sem = fun _ => 0) :=
  Region.run cfgs (0 : Fin 1) launch0 (fun q c => match q with | ⟨0, _⟩ => rdat m c) defs₀ Variants.none m ρ main
    (hbody := fun c => (body_ok m c).toRRel) (hshare := fun c => (dat m c).share_full fun _ => rfl) (howed := fun _ _ => rfl)
    (V₀ := V0 m) (opss := [hostOps1, hostOps1_1]) (hsub := sfx_sub) (hfresh := sfx_fresh) (hkeep := sfx_keeps)
    (hmain := hmain m Variants.none) (hA := dat_A m) (hΦ := fun _ _ => rfl)

/-- The ten rows of the result block: row `n` is what point `n` computes. -/
def rows (c : Dev nD) : Vec F S10x1 .f32 := fun j => rowAt m c ⟨(j 0).val, by
  have h : (j 0).val < 10 := (j 0).isLt
  have := N_0
  show _ < grid0.N
  omega⟩

/-- The second result, from the ten rows. -/
def tensorOf (X : Vec F S10x1 .f32) : Vec F S5x2 .f32 :=
  transpose S5x2 [1, 0]
    (shapeCast S2x5 (Host.divf (shapeCast S10 X shapeCasts_S10x1_S10) (broadcastInDim S10 ![] bcast_S_S10 (constant S_ .f32 0x45000000#32)))
      shapeCasts_S10_S2x5) transposes_S2x5_S5x2_1_0

/-- The first result, from the second. -/
def meansOf (T : Vec F S5x2 .f32) : Vec F S5 .f32 :=
  Host.divf (Host.reduceAdd T (constant S_ .f32 0x00000000#32) reducesTo_S5x2_S5_d1 h_S_)
    (broadcastInDim S5 ![] bcast_S_S5 (constant S_ .f32 0x40000000#32))

theorem result_whole : (cfg0.win 4).WholeAt t0_9 := by decide +kernel

/-- The result's array after the call. -/
theorem array_rows (c : Dev nD) (A : Buf (Elt F) ((cfg0.spec 4).arr.view.loc (c.tc : Thread nD τ)))
    (h : (rdat m c).ArrAt 4 cfg0.N A) : A = rows m c := by
  obtain ⟨X, hX, hA⟩ := h.emb_eq_of_wholeAt result_whole
  have hR : RowsUpTo m c t0_9 X := (dat m c).toRRel_leaves (show isResult 4 = true from rfl) hX
  funext j
  refine (hA j).trans ?_
  have h10 : (j 0).val < 10 := (j 0).isLt
  exact hR ⟨(j 0).val, by have := N_0; show _ < grid0.N; omega⟩ _ (by show (j 0).val ≤ 9; omega) rfl

/-- The buffers as the closing lines find them, at the result's array. -/
theorem tail_entry (c : Dev nD) (A : (w : Fin cfg0.W) → Buf (Elt F) ((cfg0.spec w).arr.view.loc (c.tc : Thread nD τ)))
    (hA : A 4 = rows m c) : Pipeline.withArrays spec0 c (V0 m c) A (Proc.devRef .tc main_call0_v13) = rows m c :=
  (Pipeline.withArrays_arr spec0 winFacts0.arr_inj c (V0 m c) A 4).trans hA

theorem tail_tensor (W : Valuation τ sig (Elt F)) :
    StableHlo.after (List.flatten [hostOps1, hostOps1_1]) W (Proc.devRef .tc main_v6) = tensorOf (W (Proc.devRef .tc main_call0_v13)) := by
  unfold tensorOf
  after_results
  rfl

theorem tail_means (W : Valuation τ sig (Elt F)) :
    StableHlo.after (List.flatten [hostOps1, hostOps1_1]) W (Proc.devRef .tc main_v9) = meansOf (tensorOf (W (Proc.devRef .tc main_call0_v13))) := by
  unfold tensorOf meansOf
  after_results
  rfl

/-- No line after the call writes an argument. -/
theorem tail_keeps (W : Valuation τ sig (Elt F)) (b : Ref sig .tc) (hb : b = main_arg0 ∨ b = main_arg1 ∨ b = main_arg2) :
    StableHlo.after (List.flatten [hostOps1, hostOps1_1]) W (Proc.devRef .tc b) = W (Proc.devRef .tc b) :=
  StableHlo.after_of_forall_not_mem (b := Proc.devRef .tc b) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.reshape_writes, Finset.mem_singleton]
    rcases hb with rfl | rfl | rfl
    all_goals
      repeat' apply And.intro
      all_goals exact StableHlo.devRef_ne_of_ne (by decide)))

/-- The run's end on every core: both results from the ten rows, the arguments as they were, every counter at zero. -/
theorem run_values : θ_run defs (onTc (τ := τ) (main (F := F))) (s₀ m ρ) (fun r =>
    (∀ c : Dev nD,
      r.2.mem ((c.tc : Thread nD τ).loc main_v9) = meansOf (tensorOf (rows m c))
      ∧ r.2.mem ((c.tc : Thread nD τ).loc main_v6) = tensorOf (rows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) := by
  refine (θ_run defs _ _).mono ?_ (run_rel m ρ)
  rintro r ⟨h, hz⟩
  refine ⟨fun c => ?_, hz⟩
  obtain ⟨A, hA, hb⟩ := h c
  have h4 := array_rows m c (A 4) (hA 4)
  refine ⟨?_, ?_, ?_, ?_, ?_⟩
  · refine (hb main_v9 (Pipeline.mem_restRefs_of main_v9 (by decide) (by decide))).trans ?_
    rw [tail_means, tail_entry m c A h4]
  · refine (hb main_v6 (Pipeline.mem_restRefs_of main_v6 (by decide) (by decide))).trans ?_
    rw [tail_tensor, tail_entry m c A h4]
  · refine (hb main_arg0 (Pipeline.mem_restRefs_of main_arg0 (by decide) (by decide))).trans ?_
    rw [tail_keeps _ main_arg0 (.inl rfl), Pipeline.withArrays_of_ne _ c (V0 m c) _ main_arg0 (by exact (by decide : ∀ w, Pipeline.arrRef spec0 w ≠ main_arg0))]
    exact V_main_arg0 m c
  · refine (hb main_arg1 (Pipeline.mem_restRefs_of main_arg1 (by decide) (by decide))).trans ?_
    rw [tail_keeps _ main_arg1 (.inr (.inl rfl)), Pipeline.withArrays_of_ne _ c (V0 m c) _ main_arg1 (by exact (by decide : ∀ w, Pipeline.arrRef spec0 w ≠ main_arg1))]
    exact V_main_arg1 m c
  · refine (hb main_arg2 (Pipeline.mem_restRefs_of main_arg2 (by decide) (by decide))).trans ?_
    rw [tail_keeps _ main_arg2 (.inr (.inr rfl)), Pipeline.withArrays_of_ne _ c (V0 m c) _ main_arg2 (by exact (by decide : ∀ w, Pipeline.arrRef spec0 w ≠ main_arg2))]
    exact V_main_arg2 m c

end Cert.Chamfer

end
-- ==== Proof.Maths.lean ====
/- The arithmetic behind the claim: for finite points the kernel's terms and the reference's squared distances are the same
   numbers, and taking a minimum commutes with adding a finite number and with the cut at zero. -/
module

public import Idealize.ShloMosaic.PureOps.Ideal

@[expose] public section

noncomputable section

namespace Cert.Chamfer

open Idealize.ShloMosaic

/-- The pattern of minus two. -/
theorem ofBits_neg_two : Ideal.ofBits .f32 0xC0000000#32 = ((-2 : ℝ) : EReal) := by
  simp [Ideal.ofBits, Ideal.ieee]; rw [← EReal.coe_mul]; norm_num

/-- The pattern of two. -/
theorem ofBits_two : Ideal.ofBits .f32 0x40000000#32 = ((2 : ℝ) : EReal) := by
  simp [Ideal.ofBits, Ideal.ieee]; rw [← EReal.coe_mul]; norm_num

/-- The pattern of 2048. -/
theorem ofBits_2048 : Ideal.ofBits .f32 0x45000000#32 = ((2048 : ℝ) : EReal) := by
  simp [Ideal.ofBits, Ideal.ieee]; rw [← EReal.coe_mul]; norm_num

/-- The pattern of plus infinity, where every minimum starts. -/
theorem ofBits_inf : Ideal.ofBits .f32 0x7F800000#32 = (⊤ : EReal) := by simp [Ideal.ofBits, Ideal.ieee]

/-- The least of finitely many terms, spelled as the programs do: a fold of `min` from plus infinity. -/
theorem fold_min {n : Nat} (f : Fin n → EReal) :
    Finset.univ.fold (min : EReal → EReal → EReal) (Ideal.ofBits .f32 0x7F800000#32) f = Finset.univ.inf f := by
  rw [ofBits_inf]; rfl

/-- A finite number added to the least term, cut at zero: the least of the terms each so changed. -/
theorem inf_shift {n : Nat} (f : Fin n → EReal) (q : ℝ) :
    max (Finset.univ.inf f + (q : EReal)) 0 = Finset.univ.inf fun j => max (f j + (q : EReal)) 0 := by
  have mono : Monotone fun t : EReal => max (t + (q : EReal)) 0 := fun a b h => max_le_max (add_le_add_left h _) le_rfl
  have top : (fun t : EReal => max (t + (q : EReal)) 0) ⊤ = ⊤ := by
    show max ((⊤ : EReal) + (q : EReal)) 0 = ⊤
    rw [EReal.top_add_coe]; exact max_eq_left le_top
  exact Finset.comp_inf_eq_inf_comp_of_is_total (fun t : EReal => max (t + (q : EReal)) 0) mono top

/-- The squared distance of two finite points, from the inner product with the first point times minus two. -/
theorem dist_eq (x y : Fin 3 → ℝ) :
    ((∑ d, (((-2 : ℝ) : EReal) * (x d : EReal)) * (y d : EReal)) + ∑ d, (y d : EReal) * (y d : EReal)) + ∑ d, (x d : EReal) * (x d : EReal)
      = ((∑ d, (x d : EReal) * (x d : EReal)) + ∑ d, (y d : EReal) * (y d : EReal)) - ((2 : ℝ) : EReal) * ∑ d, (x d : EReal) * (y d : EReal) := by
  simp only [Fin.sum_univ_three, ← EReal.coe_mul, ← EReal.coe_add, ← EReal.coe_sub]
  congr 1
  ring

theorem dist_eq' (x y : Fin 3 → ℝ) :
    ((∑ d, (((-2 : ℝ) : EReal) * (x d : EReal)) * (y d : EReal)) + ∑ d, (x d : EReal) * (x d : EReal)) + ∑ d, (y d : EReal) * (y d : EReal)
      = ((∑ d, (x d : EReal) * (x d : EReal)) + ∑ d, (y d : EReal) * (y d : EReal)) - ((2 : ℝ) : EReal) * ∑ d, (x d : EReal) * (y d : EReal) := by
  rw [← dist_eq, add_right_comm]

/-- The squared length of a finite point is finite. -/
theorem length_coe (x : Fin 3 → ℝ) : ∑ d, (x d : EReal) * (x d : EReal) = ((∑ d, x d * x d : ℝ) : EReal) := by
  simp only [Fin.sum_univ_three, ← EReal.coe_mul, ← EReal.coe_add]

/-- Two sums of numbers that are not negative, divided together or one by one. -/
theorem div_sums {n : Nat} (f g : Fin n → EReal) (hf : ∀ i, 0 ≤ f i) (hg : ∀ i, 0 ≤ g i) :
    Ideal.div ((∑ i, f i) + ∑ i, g i) ((2048 : ℝ) : EReal) = Ideal.div (∑ i, f i) ((2048 : ℝ) : EReal) + Ideal.div (∑ i, g i) ((2048 : ℝ) : EReal) := by
  have h : (2048 : ℝ) ≠ 0 := by norm_num
  rw [Ideal.div_coe h, Ideal.div_coe h, Ideal.div_coe h]
  exact EReal.right_distrib_of_nonneg (Finset.sum_nonneg fun i _ => hf i) (Finset.sum_nonneg fun i _ => hg i)

end Cert.Chamfer

end
-- ==== Proof.Tiles.lean ====
/- One tile of 256 points over the extended reals, the eight tiles joined into one range of 2048, and the body's text
   written as its tiles. -/
module

public import proofs.«01_k».proof.Proof.Body
public import proofs.«01_k».proof.Proof.Maths
public import Idealize.ShloMosaic.Lib.Pointwise

@[expose] public section

set_option maxRecDepth 16384

noncomputable section

namespace Cert.Chamfer

open Cert.KernelIdeal Cert.KernelIdeal.Gen Cert.KernelIdeal.Facts
open Idealize.ShloMosaic

/-- The point at place `r` of tile `n`. -/
def tilePt (n : Fin 8) (r : Fin 256) : Fin 2048 := ⟨n.val * 256 + r.val, by omega⟩

/-- The least over all points is the least of the eight tiles' leasts. -/
theorem inf_tiles (f : Fin 2048 → EReal) :
    Finset.univ.inf f = Finset.univ.inf fun n : Fin 8 => Finset.univ.inf fun r : Fin 256 => f (tilePt n r) := by
  apply le_antisymm
  · exact Finset.le_inf fun n _ => Finset.le_inf fun r _ => Finset.inf_le (Finset.mem_univ _)
  · refine Finset.le_inf fun i _ => ?_
    have h : f i = f (tilePt ⟨i.val / 256, by omega⟩ ⟨i.val % 256, by omega⟩) := by
      congr 1; apply Fin.ext; simp only [tilePt]; omega
    rw [h]
    exact (Finset.inf_le (Finset.mem_univ _)).trans (Finset.inf_le (Finset.mem_univ _))

/-- Eight values: the least of them, in the order the body compares them. -/
theorem inf_eight (g : Fin 8 → EReal) :
    Finset.univ.inf g = min (min (min (min (min (min (min (min ⊤ (g 0)) (g 1)) (g 2)) (g 3)) (g 4)) (g 5)) (g 6)) (g 7) := by
  apply le_antisymm
  · simp only [le_min_iff, le_top, true_and]
    exact ⟨⟨⟨⟨⟨⟨⟨Finset.inf_le (Finset.mem_univ _), Finset.inf_le (Finset.mem_univ _)⟩, Finset.inf_le (Finset.mem_univ _)⟩,
      Finset.inf_le (Finset.mem_univ _)⟩, Finset.inf_le (Finset.mem_univ _)⟩, Finset.inf_le (Finset.mem_univ _)⟩,
      Finset.inf_le (Finset.mem_univ _)⟩, Finset.inf_le (Finset.mem_univ _)⟩
  · refine Finset.le_inf fun i _ => ?_
    fin_cases i <;> simp

/-! ## One tile -/

/-- A tile's block of inner products. -/
def tileProd (A : FVec Ideal S8x256 .f32) (b : FVec Ideal S8x2048 .f32) : FVec Ideal S256x2048 .f32 :=
  matmul dot_S8x256_S8x2048_S256x2048_0_0_1_1_n_n none A b (constant S256x2048 .f32 0x00000000#32)

/-- The least term of each row of a tile, before the row's own squared length is added. -/
def tileMins (P : FVec Ideal S256x2048 .f32) (c : FVec Ideal S2048 .f32) : FVec Ideal S256 .f32 :=
  multiReduction .minimumf [1] S256 (addf P (broadcastTo S256x2048 (shapeCast S1x2048 c shapeCasts_S2048_S1x2048)
    broadcasts_S1x2048_S256x2048)) 0x7F800000#32 reduces_S256x2048_S256 (.inl rfl) rfl

/-- The sum of a tile's clamped least terms. -/
def clampSum (M q : FVec Ideal S256 .f32) : EReal :=
  extractAt ![0, 0] (shapeCast S1x1 (multiReduction .add [1] S1 (shapeCast S1x256
    (maximumf (addf M q) (broadcast S256 (Scalar.ofBits (F := Ideal) .f32 0x00000000#32))) shapeCasts_S256_S1x256)
    0x00000000#32 reduces_S1x256_S1 (.inl rfl) rfl) shapeCasts_S1_S1x1) inpos_S1x1_p0_0

/-- What a tile adds to the total. -/
def tileSum (P : FVec Ideal S256x2048 .f32) (q : FVec Ideal S256 .f32) (c : FVec Ideal S2048 .f32) : EReal :=
  clampSum (tileMins P c) q

/-- How a tile lowers the columns' least terms so far. -/
def tileMin (M : FVec Ideal S2048 .f32) (P : FVec Ideal S256x2048 .f32) (q : FVec Ideal S256 .f32) : FVec Ideal S2048 .f32 :=
  minimumf M (multiReduction .minimumf [0] S2048 (addf P (broadcastTo S256x2048 (shapeCast S256x1 q shapeCasts_S256_S256x1)
    broadcasts_S256x1_S256x2048)) 0x7F800000#32 reduces_S256x2048_S2048 (.inl rfl) rfl)

/-- What the columns add to the total after the last tile. -/
def colSum (M c : FVec Ideal S2048 .f32) : EReal :=
  extractAt ![0, 0] (shapeCast S1x1 (multiReduction .add [1] S1 (shapeCast S1x2048
    (maximumf (addf M c) (broadcast S2048 (Scalar.ofBits (F := Ideal) .f32 0x00000000#32))) shapeCasts_S2048_S1x2048)
    0x00000000#32 reduces_S1x2048_S1 (.inl rfl) rfl) shapeCasts_S1_S1x1) inpos_S1x1_p0_0

theorem tileSum_def (P : FVec Ideal S256x2048 .f32) (q : FVec Ideal S256 .f32) (c : FVec Ideal S2048 .f32) :
    tileSum P q c = clampSum (tileMins P c) q := rfl

theorem tileProd_apply (A : FVec Ideal S8x256 .f32) (b : FVec Ideal S8x2048 .f32) (r : Fin 256) (j : Fin 2048) :
    tileProd A b (ix2 r j) = ∑ k : Fin 8, A (ix2 k r) * b (ix2 k j) := by
  pointwise [tileProd]

theorem tileSum_eq (P : FVec Ideal S256x2048 .f32) (q : FVec Ideal S256 .f32) (c : FVec Ideal S2048 .f32) :
    tileSum P q c = ∑ r : Fin 256, max ((Finset.univ.inf fun j : Fin 2048 => P (ix2 r j) + c (ix1 j)) + q (ix1 r)) 0 := by
  simp only [← fold_min]
  pointwise [tileSum, clampSum, tileMins]

theorem tileMin_apply (M : FVec Ideal S2048 .f32) (P : FVec Ideal S256x2048 .f32) (q : FVec Ideal S256 .f32) (j : Fin 2048) :
    tileMin M P q (ix1 j) = min (M (ix1 j)) (Finset.univ.inf fun r : Fin 256 => P (ix2 r j) + q (ix1 r)) := by
  simp only [← fold_min]
  pointwise [tileMin]

theorem colSum_eq (M c : FVec Ideal S2048 .f32) : colSum M c = ∑ j : Fin 2048, max (M (ix1 j) + c (ix1 j)) 0 := by
  pointwise [colSum]

/-! ## The eight tiles together -/

/-- Tile `n` of the first cloud's coordinates. -/
theorem slice_block (a : FVec Ideal S8x2048 .f32) (n : Fin 8) (o : Nat) (ho : o = n.val * 256)
    (h : S8x2048.Slices ![0, o] S8x256) (k : Fin 8) (r : Fin 256) :
    extractStridedSlice S8x256 ![0, o] a h (ix2 k r) = a (ix2 k (tilePt n r)) := by
  subst ho
  unfold extractStridedSlice
  congr 1
  funext d
  apply Fin.ext
  fin_cases d <;> simp [tilePt, ix2]

/-- Tile `n` of the first cloud's squared lengths. -/
theorem slice_row (q : FVec Ideal S2048 .f32) (n : Fin 8) (o : Nat) (ho : o = n.val * 256)
    (h : S2048.Slices ![o] S256) (r : Fin 256) :
    extractStridedSlice S256 ![o] q h (ix1 r) = q (ix1 (tilePt n r)) := by
  subst ho
  unfold extractStridedSlice
  congr 1
  funext d
  apply Fin.ext
  fin_cases d <;> simp [tilePt, ix1]

/-- The inner product of point `i` of the first cloud and point `j` of the second, over the eight padded coordinates. -/
def inner (a b : FVec Ideal S8x2048 .f32) (i j : Fin 2048) : EReal := ∑ k : Fin 8, a (ix2 k i) * b (ix2 k j)

/-- The clamped least term of point `i` of the first cloud. -/
def rowTerm (a b : FVec Ideal S8x2048 .f32) (q c : FVec Ideal S2048 .f32) (i : Fin 2048) : EReal :=
  max ((Finset.univ.inf fun j : Fin 2048 => inner a b i j + c (ix1 j)) + q (ix1 i)) 0

/-- The clamped least term of point `j` of the second cloud. -/
def colTerm (a b : FVec Ideal S8x2048 .f32) (q c : FVec Ideal S2048 .f32) (j : Fin 2048) : EReal :=
  max ((Finset.univ.inf fun i : Fin 2048 => inner a b i j + q (ix1 i)) + c (ix1 j)) 0

/-- What tile `n` adds to the total. -/
theorem tileSum_slice (a b : FVec Ideal S8x2048 .f32) (q c : FVec Ideal S2048 .f32) (n : Fin 8) (o : Nat) (ho : o = n.val * 256)
    (h : S8x2048.Slices ![0, o] S8x256) (h' : S2048.Slices ![o] S256) :
    tileSum (tileProd (extractStridedSlice S8x256 ![0, o] a h) b) (extractStridedSlice S256 ![o] q h') c
      = ∑ r : Fin 256, rowTerm a b q c (tilePt n r) := by
  rw [tileSum_eq]
  simp only [tileProd_apply, slice_block a n o ho, slice_row q n o ho, rowTerm, inner]

/-- How tile `n` lowers the least term of column `j`. -/
theorem tileMin_slice (M : FVec Ideal S2048 .f32) (a b : FVec Ideal S8x2048 .f32) (q : FVec Ideal S2048 .f32) (n : Fin 8) (o : Nat)
    (ho : o = n.val * 256) (h : S8x2048.Slices ![0, o] S8x256) (h' : S2048.Slices ![o] S256) (j : Fin 2048) :
    tileMin M (tileProd (extractStridedSlice S8x256 ![0, o] a h) b) (extractStridedSlice S256 ![o] q h') (ix1 j)
      = min (M (ix1 j)) (Finset.univ.inf fun r : Fin 256 => inner a b (tilePt n r) j + q (ix1 (tilePt n r))) := by
  rw [tileMin_apply]
  simp only [tileProd_apply, slice_block a n o ho, slice_row q n o ho, inner]

/-- The total after the eight tiles. -/
def rowsSum (a b : FVec Ideal S8x2048 .f32) (q c : FVec Ideal S2048 .f32) : EReal :=
  ((((((((0 + tileSum (tileProd (extractStridedSlice S8x256 ![0, 0] a slices_S8x2048_o0_0_S8x256) b) (extractStridedSlice S256 ![0] q slices_S2048_o0_S256) c)
    + tileSum (tileProd (extractStridedSlice S8x256 ![0, 256] a slices_S8x2048_o0_256_S8x256) b) (extractStridedSlice S256 ![256] q slices_S2048_o256_S256) c)
    + tileSum (tileProd (extractStridedSlice S8x256 ![0, 512] a slices_S8x2048_o0_512_S8x256) b) (extractStridedSlice S256 ![512] q slices_S2048_o512_S256) c)
    + tileSum (tileProd (extractStridedSlice S8x256 ![0, 768] a slices_S8x2048_o0_768_S8x256) b) (extractStridedSlice S256 ![768] q slices_S2048_o768_S256) c)
    + tileSum (tileProd (extractStridedSlice S8x256 ![0, 1024] a slices_S8x2048_o0_1024_S8x256) b) (extractStridedSlice S256 ![1024] q slices_S2048_o1024_S256) c)
    + tileSum (tileProd (extractStridedSlice S8x256 ![0, 1280] a slices_S8x2048_o0_1280_S8x256) b) (extractStridedSlice S256 ![1280] q slices_S2048_o1280_S256) c)
    + tileSum (tileProd (extractStridedSlice S8x256 ![0, 1536] a slices_S8x2048_o0_1536_S8x256) b) (extractStridedSlice S256 ![1536] q slices_S2048_o1536_S256) c)
    + tileSum (tileProd (extractStridedSlice S8x256 ![0, 1792] a slices_S8x2048_o0_1792_S8x256) b) (extractStridedSlice S256 ![1792] q slices_S2048_o1792_S256) c)

/-- The columns' least terms after the eight tiles. -/
def colsMin (a b : FVec Ideal S8x2048 .f32) (q : FVec Ideal S2048 .f32) : FVec Ideal S2048 .f32 :=
  tileMin (tileMin (tileMin (tileMin (tileMin (tileMin (tileMin (tileMin (broadcast S2048 (Scalar.ofBits (F := Ideal) .f32 0x7F800000#32))
    (tileProd (extractStridedSlice S8x256 ![0, 0] a slices_S8x2048_o0_0_S8x256) b) (extractStridedSlice S256 ![0] q slices_S2048_o0_S256))
    (tileProd (extractStridedSlice S8x256 ![0, 256] a slices_S8x2048_o0_256_S8x256) b) (extractStridedSlice S256 ![256] q slices_S2048_o256_S256))
    (tileProd (extractStridedSlice S8x256 ![0, 512] a slices_S8x2048_o0_512_S8x256) b) (extractStridedSlice S256 ![512] q slices_S2048_o512_S256))
    (tileProd (extractStridedSlice S8x256 ![0, 768] a slices_S8x2048_o0_768_S8x256) b) (extractStridedSlice S256 ![768] q slices_S2048_o768_S256))
    (tileProd (extractStridedSlice S8x256 ![0, 1024] a slices_S8x2048_o0_1024_S8x256) b) (extractStridedSlice S256 ![1024] q slices_S2048_o1024_S256))
    (tileProd (extractStridedSlice S8x256 ![0, 1280] a slices_S8x2048_o0_1280_S8x256) b) (extractStridedSlice S256 ![1280] q slices_S2048_o1280_S256))
    (tileProd (extractStridedSlice S8x256 ![0, 1536] a slices_S8x2048_o0_1536_S8x256) b) (extractStridedSlice S256 ![1536] q slices_S2048_o1536_S256))
    (tileProd (extractStridedSlice S8x256 ![0, 1792] a slices_S8x2048_o0_1792_S8x256) b) (extractStridedSlice S256 ![1792] q slices_S2048_o1792_S256)

theorem rowsSum_eq (a b : FVec Ideal S8x2048 .f32) (q c : FVec Ideal S2048 .f32) :
    rowsSum a b q c = ∑ i : Fin 2048, rowTerm a b q c i := by
  rw [Fin.sum_univ_tiles 8 256 rfl, Fin.sum_univ_eight]
  unfold rowsSum
  rw [tileSum_slice a b q c 0 0 rfl, tileSum_slice a b q c 1 256 rfl, tileSum_slice a b q c 2 512 rfl, tileSum_slice a b q c 3 768 rfl,
    tileSum_slice a b q c 4 1024 rfl, tileSum_slice a b q c 5 1280 rfl, tileSum_slice a b q c 6 1536 rfl,
    tileSum_slice a b q c 7 1792 rfl, zero_add]
  rfl

theorem colsMin_apply (a b : FVec Ideal S8x2048 .f32) (q : FVec Ideal S2048 .f32) (j : Fin 2048) :
    colsMin a b q (ix1 j) = Finset.univ.inf fun i : Fin 2048 => inner a b i j + q (ix1 i) := by
  rw [inf_tiles, inf_eight]
  unfold colsMin
  rw [tileMin_slice _ a b q 7 1792 rfl, tileMin_slice _ a b q 6 1536 rfl, tileMin_slice _ a b q 5 1280 rfl, tileMin_slice _ a b q 4 1024 rfl,
    tileMin_slice _ a b q 3 768 rfl, tileMin_slice _ a b q 2 512 rfl, tileMin_slice _ a b q 1 256 rfl, tileMin_slice _ a b q 0 0 rfl]
  have h : (broadcast S2048 (Scalar.ofBits (F := Ideal) .f32 0x7F800000#32)) (ix1 j) = (⊤ : EReal) := ofBits_inf
  rw [h]

/-! ## The body's text, put together from its tiles -/

theorem scalar_addf (x y : EReal) : Scalar.addf (F := Ideal) (φ := .f32) x y = x + y := rfl

theorem pay6_eq (v0 v2 : Vec Ideal S1x8x2048 .f32) :
    k0_pay6 v0 v2 = tileProd (extractStridedSlice S8x256 ![0, 0] (k0_pay1 v0) slices_S8x2048_o0_0_S8x256) (k0_pay2 v2) := rfl

theorem pay10_eq (v0 v2 : Vec Ideal S1x8x2048 .f32) :
    k0_pay10 v0 v2 = tileProd (extractStridedSlice S8x256 ![0, 256] (k0_pay1 v0) slices_S8x2048_o0_256_S8x256) (k0_pay2 v2) := rfl

theorem pay13_eq (a b : FVec Ideal S8x2048 .f32) :
    k0_pay13 a b = tileProd (extractStridedSlice S8x256 ![0, 512] a slices_S8x2048_o0_512_S8x256) b := rfl

theorem pay16_eq (a b : FVec Ideal S8x2048 .f32) :
    k0_pay16 a b = tileProd (extractStridedSlice S8x256 ![0, 768] a slices_S8x2048_o0_768_S8x256) b := rfl

theorem pay19_eq (a b : FVec Ideal S8x2048 .f32) :
    k0_pay19 a b = tileProd (extractStridedSlice S8x256 ![0, 1024] a slices_S8x2048_o0_1024_S8x256) b := rfl

theorem pay21_eq (a b : FVec Ideal S8x2048 .f32) :
    k0_pay21 a b = tileProd (extractStridedSlice S8x256 ![0, 1280] a slices_S8x2048_o0_1280_S8x256) b := rfl

theorem pay25_eq (a b : FVec Ideal S8x2048 .f32) :
    k0_pay25 a b = tileProd (extractStridedSlice S8x256 ![0, 1536] a slices_S8x2048_o0_1536_S8x256) b := rfl

theorem pay5_eq (v4 : Vec Ideal S1x1x2048 .f32) :
    k0_pay5 v4 = extractStridedSlice S256 ![0] (k0_pay3 v4) slices_S2048_o0_S256 := rfl

theorem pay9_eq (v4 : Vec Ideal S1x1x2048 .f32) :
    k0_pay9 v4 = extractStridedSlice S256 ![256] (k0_pay3 v4) slices_S2048_o256_S256 := rfl

theorem pay12_eq (q : FVec Ideal S2048 .f32) :
    k0_pay12 q = extractStridedSlice S256 ![512] q slices_S2048_o512_S256 := rfl

theorem pay15_eq (q : FVec Ideal S2048 .f32) :
    k0_pay15 q = extractStridedSlice S256 ![768] q slices_S2048_o768_S256 := rfl

theorem pay18_eq (q : FVec Ideal S2048 .f32) :
    k0_pay18 q = extractStridedSlice S256 ![1024] q slices_S2048_o1024_S256 := rfl

theorem pay20_eq (q : FVec Ideal S2048 .f32) :
    k0_pay20 q = extractStridedSlice S256 ![1280] q slices_S2048_o1280_S256 := rfl

theorem pay24_eq (q : FVec Ideal S2048 .f32) :
    k0_pay24 q = extractStridedSlice S256 ![1536] q slices_S2048_o1536_S256 := rfl

theorem pay7_eq (v0 v2 : Vec Ideal S1x8x2048 .f32) (v4 v7 : Vec Ideal S1x1x2048 .f32) :
    k0_pay7 v0 v2 v4 v7 = Scalar.addf (F := Ideal) (φ := .f32) (Scalar.ofBits (F := Ideal) .f32 0x00000000#32)
      (tileSum (k0_pay6 v0 v2) (k0_pay5 v4) (k0_pay4 v7)) := rfl

theorem pay8_eq (v0 v2 : Vec Ideal S1x8x2048 .f32) (v4 : Vec Ideal S1x1x2048 .f32) :
    k0_pay8 v0 v2 v4 = tileMin (broadcast S2048 (Scalar.ofBits (F := Ideal) .f32 0x7F800000#32)) (k0_pay6 v0 v2) (k0_pay5 v4) := rfl

theorem pay11_eq (v0 v2 : Vec Ideal S1x8x2048 .f32) (v7 : Vec Ideal S1x1x2048 .f32) :
    k0_pay11 v0 v2 v7 = tileMins (k0_pay10 v0 v2) (k0_pay4 v7) := rfl

theorem pay14_eq (a b : FVec Ideal S8x2048 .f32) (q M : FVec Ideal S2048 .f32) (q' : FVec Ideal S256 .f32) (P : FVec Ideal S256x2048 .f32) :
    k0_pay14 a b q M q' P = tileMin (tileMin M P q') (k0_pay13 a b) (k0_pay12 q) := rfl

theorem pay17_eq (a b : FVec Ideal S8x2048 .f32) (q c : FVec Ideal S2048 .f32) (t : EReal) (q' M : FVec Ideal S256 .f32) :
    k0_pay17 (F := Ideal) a b q c t q' M = Scalar.addf (F := Ideal) (φ := .f32) (Scalar.addf (F := Ideal) (φ := .f32)
      (Scalar.addf (F := Ideal) (φ := .f32) t (clampSum M q')) (tileSum (k0_pay13 a b) (k0_pay12 q) c))
      (tileSum (k0_pay16 a b) (k0_pay15 q) c) := rfl

theorem pay22_eq (a b : FVec Ideal S8x2048 .f32) (q c : FVec Ideal S2048 .f32) (t : EReal) :
    k0_pay22 (F := Ideal) a b q c t = Scalar.addf (F := Ideal) (φ := .f32)
      (Scalar.addf (F := Ideal) (φ := .f32) t (tileSum (k0_pay19 a b) (k0_pay18 q) c)) (tileSum (k0_pay21 a b) (k0_pay20 q) c) := rfl

theorem pay23_eq (a b : FVec Ideal S8x2048 .f32) (q M : FVec Ideal S2048 .f32) (q' : FVec Ideal S256 .f32) (P : FVec Ideal S256x2048 .f32) :
    k0_pay23 a b q M q' P = tileMin (tileMin (tileMin M P q') (k0_pay19 a b) (k0_pay18 q)) (k0_pay21 a b) (k0_pay20 q) := rfl

theorem pay26_eq (a b : FVec Ideal S8x2048 .f32) (q c : FVec Ideal S2048 .f32) (t : EReal) (M : FVec Ideal S2048 .f32)
    (q' : FVec Ideal S256 .f32) (P : FVec Ideal S256x2048 .f32) :
    k0_pay26 (F := Ideal) a b q c t M q' P = Scalar.addf (F := Ideal) (φ := .f32) (Scalar.addf (F := Ideal) (φ := .f32)
      (Scalar.addf (F := Ideal) (φ := .f32) t (tileSum P q' c))
      (tileSum (tileProd (extractStridedSlice S8x256 ![0, 1792] a slices_S8x2048_o0_1792_S8x256) b)
        (extractStridedSlice S256 ![1792] q slices_S2048_o1792_S256) c))
      (colSum (tileMin (tileMin M P q') (tileProd (extractStridedSlice S8x256 ![0, 1792] a slices_S8x2048_o0_1792_S8x256) b)
        (extractStridedSlice S256 ![1792] q slices_S2048_o1792_S256)) c) := rfl

end Cert.Chamfer

end
-- ==== Proof.Point.lean ====
/- The number of one grid point over the extended reals: the sum over the points of the first cloud of their clamped
   least terms, plus the same sum over the points of the second cloud. -/
module

public import proofs.«01_k».proof.Proof.Tiles

@[expose] public section

set_option maxRecDepth 16384

noncomputable section

namespace Cert.Chamfer

open Cert.KernelIdeal Cert.KernelIdeal.Gen Cert.KernelIdeal.Facts
open Idealize.ShloMosaic

/-- The total at a point, its tiles in the order the body adds them. -/
theorem pointSum_tiles (v0 v2 : Vec Ideal S1x8x2048 .f32) (v4 v7 : Vec Ideal S1x1x2048 .f32) :
    pointSum v0 v2 v4 v7 = rowsSum (k0_pay1 v0) (k0_pay2 v2) (k0_pay3 v4) (k0_pay4 v7)
      + colSum (colsMin (k0_pay1 v0) (k0_pay2 v2) (k0_pay3 v4)) (k0_pay4 v7) := by
  have h0 : (Scalar.ofBits (F := Ideal) .f32 0x00000000#32 : EReal) = 0 := Ideal.ofBits_zero_f32
  unfold pointSum rowsSum colsMin
  rw [pay26_eq, pay22_eq, pay17_eq, pay7_eq, pay23_eq, pay14_eq, pay8_eq, pay11_eq]
  rw [pay6_eq, pay10_eq, pay5_eq, pay9_eq]
  generalize k0_pay1 v0 = a
  generalize k0_pay2 v2 = b
  generalize k0_pay3 v4 = q
  generalize k0_pay4 v7 = c
  rw [pay13_eq, pay16_eq, pay19_eq, pay21_eq, pay25_eq, pay12_eq, pay15_eq, pay18_eq, pay20_eq, pay24_eq]
  rw [← tileSum_def]
  rw [scalar_addf, scalar_addf, scalar_addf, scalar_addf, scalar_addf, scalar_addf, scalar_addf, scalar_addf, scalar_addf, h0]

/-- The number of one grid point. -/
theorem pointSum_eq (v0 v2 : Vec Ideal S1x8x2048 .f32) (v4 v7 : Vec Ideal S1x1x2048 .f32) :
    pointSum v0 v2 v4 v7
      = (∑ i : Fin 2048, rowTerm (k0_pay1 v0) (k0_pay2 v2) (k0_pay3 v4) (k0_pay4 v7) i)
        + ∑ j : Fin 2048, colTerm (k0_pay1 v0) (k0_pay2 v2) (k0_pay3 v4) (k0_pay4 v7) j := by
  rw [pointSum_tiles, rowsSum_eq, colSum_eq]
  simp only [colsMin_apply, colTerm]

theorem pay1_apply (v0 : Vec Ideal S1x8x2048 .f32) (k : Fin 8) (i : Fin 2048) : k0_pay1 v0 (ix2 k i) = v0 (ix3 0 k i) := by
  pointwise [k0_pay1]

theorem pay2_apply (v2 : Vec Ideal S1x8x2048 .f32) (k : Fin 8) (i : Fin 2048) : k0_pay2 v2 (ix2 k i) = v2 (ix3 0 k i) := by
  pointwise [k0_pay2]

theorem pay3_apply (v4 : Vec Ideal S1x1x2048 .f32) (i : Fin 2048) : k0_pay3 v4 (ix1 i) = v4 (ix3 0 0 i) := by
  pointwise [k0_pay3]

theorem pay4_apply (v7 : Vec Ideal S1x1x2048 .f32) (i : Fin 2048) : k0_pay4 v7 (ix1 i) = v7 (ix3 0 0 i) := by
  pointwise [k0_pay4]

end Cert.Chamfer

end
-- ==== Proof.Entry.lean ====
/- The blocks a grid point reads, in terms of the two arguments: point `t` sees pair `t`'s clouds, the first cloud's
   coordinates times minus two, both clouds padded with five zero coordinates, and their squared lengths. -/
module

public import proofs.«01_k».proof.Proof.Gen.KernelIdeal.Frame
public import Idealize.ShloMosaic.Lib.Pointwise
public import Idealize.ShloMosaic.Lib.Claim
public import Idealize.ShloMosaic.Lib.Pipeline.ValueKit

@[expose] public section

set_option maxRecDepth 16384

noncomputable section

namespace Cert.Chamfer

open Cert.KernelIdeal Cert.KernelIdeal.Gen Cert.KernelIdeal.Facts
open Idealize.ShloMosaic Idealize.ShloMosaic.TcCoe Idealize.ShloMosaic.Tactic Idealize.SL.Sem

variable (m : (ℓ : Loc nD τ sig) → Buf (Elt Ideal) ℓ)

/-- Which block each window shows at point `t`. -/
theorem idx : ∀ t : Fin cfg0.N, win0_0.index t = ![t.val, 0, 0] ∧ win0_1.index t = ![t.val, 0, 0] ∧ win0_2.index t = ![t.val, 0, 0]
    ∧ win0_3.index t = ![t.val, 0, 0] := (by decide +kernel : ∀ t : Fin grid0.N, _)

/-- The batches and samples in one axis of ten pairs. -/
def flat (X : FVec Ideal S2x5x2048x3 .f32) : FVec Ideal S10x2048x3 .f32 := shapeCast S10x2048x3 X shapeCasts_S2x5x2048x3_S10x2048x3

/-- Coordinates before points. -/
def swapped (X : FVec Ideal S2x5x2048x3 .f32) : FVec Ideal S10x3x2048 .f32 :=
  transpose S10x3x2048 [0, 2, 1] (flat X) transposes_S10x2048x3_S10x3x2048_0_2_1

/-- Three coordinates and then five zeros. -/
def padded (Y : FVec Ideal S10x3x2048 .f32) : FVec Ideal S10x8x2048 .f32 :=
  concatenate S10x8x2048 1 [⟨S10x3x2048, Y⟩, ⟨S10x5x2048, broadcastInDim S10x5x2048 ![] bcast_S_S10x5x2048 (constant S_ .f32 0x00000000#32)⟩]
    concatenates_S10x3x2048_S10x5x2048_S10x8x2048_d1

/-- Minus two times the coordinates. -/
def scaled (X : FVec Ideal S2x5x2048x3 .f32) : FVec Ideal S10x3x2048 .f32 :=
  mulf (broadcastInDim S10x3x2048 ![] bcast_S_S10x3x2048 (constant S_ .f32 0xC0000000#32)) (swapped X)

/-- The squared lengths of the points. -/
def lengths (X : FVec Ideal S2x5x2048x3 .f32) : FVec Ideal S10x1x2048 .f32 :=
  broadcastInDim S10x1x2048 ![0, 2] bcast_S10x2048_S10x1x2048_0_2
    (Host.reduceAdd (mulf (flat X) (flat X)) (constant S_ .f32 0x00000000#32) reducesTo_S10x2048x3_S10x2048_d2 h_S_)

theorem entry0 (c : Dev nD) : V m c main_call0_v5 = padded (scaled (m ((c : Thread nD τ).loc main_arg0))) := by
  entry_read; rfl

theorem entry1 (c : Dev nD) : V m c main_call0_v6 = padded (swapped (m ((c : Thread nD τ).loc main_arg1))) := by
  entry_read; rfl

theorem entry2 (c : Dev nD) : V m c main_call0_v9 = lengths (m ((c : Thread nD τ).loc main_arg0)) := by
  entry_read; rfl

theorem entry3 (c : Dev nD) : V m c main_call0_v12 = lengths (m ((c : Thread nD τ).loc main_arg1)) := by
  entry_read; rfl

/-- Point `t`'s block of the first cloud. -/
theorem iblk0 (c : Dev nD) (t : Fin cfg0.N) (t' : Fin 10) (ht : t'.val = t.val) (k : Fin 8) (i : Fin 2048) :
    iblk m c 0 t (ix3 0 k i) = V m c main_call0_v5 (ix3 t' k i) := by
  blk_ext [iblk, idx t]

/-- Point `t`'s block of the second cloud. -/
theorem iblk1 (c : Dev nD) (t : Fin cfg0.N) (t' : Fin 10) (ht : t'.val = t.val) (k : Fin 8) (i : Fin 2048) :
    iblk m c 1 t (ix3 0 k i) = V m c main_call0_v6 (ix3 t' k i) := by
  blk_ext [iblk, idx t]

/-- Point `t`'s block of the first cloud's squared lengths. -/
theorem iblk2 (c : Dev nD) (t : Fin cfg0.N) (t' : Fin 10) (ht : t'.val = t.val) (i : Fin 2048) :
    iblk m c 2 t (ix3 0 0 i) = V m c main_call0_v9 (ix3 t' 0 i) := by
  blk_ext [iblk, idx t]

/-- Point `t`'s block of the second cloud's squared lengths. -/
theorem iblk3 (c : Dev nD) (t : Fin cfg0.N) (t' : Fin 10) (ht : t'.val = t.val) (i : Fin 2048) :
    iblk m c 3 t (ix3 0 0 i) = V m c main_call0_v12 (ix3 t' 0 i) := by
  blk_ext [iblk, idx t]

/-- The pair that batch `b` and sample `s` make. -/
def pair (b : Fin 2) (s : Fin 5) : Fin 10 := ⟨b.val * 5 + s.val, by omega⟩

theorem flat_apply (X : FVec Ideal S2x5x2048x3 .f32) (b : Fin 2) (s : Fin 5) (i : Fin 2048) (d : Fin 3) :
    flat X (ix3 (pair b s) i d) = X (ix4 b s i d) := by
  pointwise [flat, pair]

theorem swapped_apply (X : FVec Ideal S2x5x2048x3 .f32) (b : Fin 2) (s : Fin 5) (i : Fin 2048) (d : Fin 3) :
    swapped X (ix3 (pair b s) d i) = X (ix4 b s i d) := by
  rw [← flat_apply X]
  pointwise [swapped]

theorem scaled_apply (X : FVec Ideal S2x5x2048x3 .f32) (b : Fin 2) (s : Fin 5) (i : Fin 2048) (d : Fin 3) :
    scaled X (ix3 (pair b s) d i) = Ideal.ofBits .f32 0xC0000000#32 * X (ix4 b s i d) := by
  rw [← swapped_apply X]
  pointwise [scaled]

theorem lengths_apply (X : FVec Ideal S2x5x2048x3 .f32) (b : Fin 2) (s : Fin 5) (i : Fin 2048) :
    lengths X (ix3 (pair b s) 0 i) = ∑ d : Fin 3, X (ix4 b s i d) * X (ix4 b s i d) := by
  simp only [← flat_apply X]
  pointwise [lengths]

/-- The five zero coordinates add nothing to an inner product. -/
theorem padded_inner (Y Z : FVec Ideal S10x3x2048 .f32) (p : Fin 10) (i j : Fin 2048) :
    ∑ k : Fin 8, padded Y (ix3 p k i) * padded Z (ix3 p k j) = ∑ d : Fin 3, Y (ix3 p d i) * Z (ix3 p d j) := by
  pointwise [padded]
  simp

end Cert.Chamfer

end
-- ==== Proof.Reference.lean ====
/- The reference's run and its results at an index: for every sample and batch the mean over the first cloud of each point's
   least squared distance, plus the same mean over the second cloud. -/
module

public import proofs.«01_k».proof.Proof.Gen.ReferenceIdeal.Run
public import proofs.«01_k».proof.Proof.Maths
public import Idealize.ShloMosaic.Lib.Pointwise
public import Idealize.ShloMosaic.Lib.Quiescent

@[expose] public section

set_option maxRecDepth 16384

noncomputable section

namespace Cert.Chamfer.Ref

open Cert.ReferenceIdeal Cert.ReferenceIdeal.Gen Cert.ReferenceIdeal.Facts
open Idealize.ShloMosaic Idealize.ShloMosaic.TcCoe Idealize.SL.Sem

/-- The squared lengths of a cloud's points. -/
def lengths (X : FVec Ideal S2x5x2048x3 .f32) : FVec Ideal S2x5x2048 .f32 :=
  Host.reduceAdd (mulf X X) (constant S_ .f32 0x00000000#32) reducesTo_S2x5x2048x3_S2x5x2048_d3 h_S_

/-- The table of squared distances, cut at zero. -/
def dists (X Y : FVec Ideal S2x5x2048x3 .f32) : FVec Ideal S2x5x2048x2048 .f32 :=
  maximumf (subf (addf
      (broadcastInDim S2x5x2048x2048 ![0, 1, 2, 3] bcast_S2x5x2048x1_S2x5x2048x2048_0_1_2_3
        (broadcastInDim S2x5x2048x1 ![0, 1, 2] bcast_S2x5x2048_S2x5x2048x1_0_1_2 (lengths X)))
      (broadcastInDim S2x5x2048x2048 ![0, 1, 2, 3] bcast_S2x5x1x2048_S2x5x2048x2048_0_1_2_3
        (broadcastInDim S2x5x1x2048 ![0, 1, 3] bcast_S2x5x2048_S2x5x1x2048_0_1_3 (lengths Y))))
      (mulf (broadcastInDim S2x5x2048x2048 ![] bcast_S_S2x5x2048x2048 (constant S_ .f32 0x40000000#32))
        (Host.dotGeneral dot_S2x5x2048x3_S2x5x2048x3_S2x5x2048x2048_3_3_2_2_01_01 none X Y)))
    (broadcastInDim S2x5x2048x2048 ![] bcast_S_S2x5x2048x2048 (constant S_ .f32 0x00000000#32))

/-- The mean over a cloud, for every batch and sample. -/
def mean (M : FVec Ideal S2x5x2048 .f32) : FVec Ideal S2x5 .f32 :=
  Host.divf (Host.reduceAdd M (constant S_ .f32 0x00000000#32) reducesTo_S2x5x2048_S2x5_d2 h_S_)
    (broadcastInDim S2x5 ![] bcast_S_S2x5 (constant S_ .f32 0x45000000#32))

/-- The least distances of the first cloud's points. -/
def rowMins (D : FVec Ideal S2x5x2048x2048 .f32) : FVec Ideal S2x5x2048 .f32 :=
  Host.reduce FloatOps.minimumf D (constant S_ .f32 0x7F800000#32) reducesTo_S2x5x2048x2048_S2x5x2048_d3 h_S_

/-- The least distances of the second cloud's points. -/
def colMins (D : FVec Ideal S2x5x2048x2048 .f32) : FVec Ideal S2x5x2048 .f32 :=
  Host.reduce FloatOps.minimumf D (constant S_ .f32 0x7F800000#32) reducesTo_S2x5x2048x2048_S2x5x2048_d2 h_S_

/-- The table of all samples and batches, the reference's second result. -/
def tensorOf (X Y : FVec Ideal S2x5x2048x3 .f32) : FVec Ideal S5x2 .f32 :=
  transpose S5x2 [1, 0] (addf (mean (rowMins (dists X Y))) (mean (colMins (dists X Y)))) transposes_S2x5_S5x2_1_0

/-- The means over the batches, the reference's first result. -/
def meansOf (T : FVec Ideal S5x2 .f32) : FVec Ideal S5 .f32 :=
  Host.divf (Host.reduceAdd T (constant S_ .f32 0x00000000#32) reducesTo_S5x2_S5_d1 h_S_)
    (broadcastInDim S5 ![] bcast_S_S5 (constant S_ .f32 0x40000000#32))

theorem lengths_apply (X : FVec Ideal S2x5x2048x3 .f32) (b : Fin 2) (s : Fin 5) (i : Fin 2048) :
    lengths X (ix3 b s i) = ∑ d : Fin 3, X (ix4 b s i d) * X (ix4 b s i d) := by
  pointwise [lengths]

theorem dists_apply (X Y : FVec Ideal S2x5x2048x3 .f32) (b : Fin 2) (s : Fin 5) (i j : Fin 2048) :
    dists X Y (ix4 b s i j) = max ((lengths X (ix3 b s i) + lengths Y (ix3 b s j))
      - Ideal.ofBits .f32 0x40000000#32 * ∑ d : Fin 3, X (ix4 b s i d) * Y (ix4 b s j d)) 0 := by
  pointwise [dists]

theorem rowMins_apply (D : FVec Ideal S2x5x2048x2048 .f32) (b : Fin 2) (s : Fin 5) (i : Fin 2048) :
    rowMins D (ix3 b s i) = Finset.univ.inf fun j : Fin 2048 => D (ix4 b s i j) := by
  rw [← fold_min]
  pointwise [rowMins]

theorem colMins_apply (D : FVec Ideal S2x5x2048x2048 .f32) (b : Fin 2) (s : Fin 5) (j : Fin 2048) :
    colMins D (ix3 b s j) = Finset.univ.inf fun i : Fin 2048 => D (ix4 b s i j) := by
  rw [← fold_min]
  pointwise [colMins]

theorem mean_apply (M : FVec Ideal S2x5x2048 .f32) (b : Fin 2) (s : Fin 5) :
    mean M (ix2 b s) = Ideal.div (∑ i : Fin 2048, M (ix3 b s i)) ((2048 : ℝ) : EReal) := by
  rw [← ofBits_2048]
  pointwise [mean]

theorem tensorOf_apply (X Y : FVec Ideal S2x5x2048x3 .f32) (s : Fin 5) (b : Fin 2) :
    tensorOf X Y (ix2 s b) = mean (rowMins (dists X Y)) (ix2 b s) + mean (colMins (dists X Y)) (ix2 b s) := by
  pointwise [tensorOf]

variable (m : (ℓ : Loc nD τ sig) → Buf (Elt Ideal) ℓ) (ρ : Dev nD → PrngReg)

/-- The reference's run: its two results by these names, its arguments unchanged, all counters at zero. -/
theorem run_values : θ_run (defs (F := Ideal)) (onTc (τ := τ) (main (F := Ideal))) ⟨m, fun _ => 0, ρ⟩ fun r =>
    (∀ c : Dev nD,
      r.2.mem ((c.tc : Thread nD τ).loc main_v27) = meansOf (tensorOf (m ((c.tc : Thread nD τ).loc main_arg0)) (m ((c.tc : Thread nD τ).loc main_arg1)))
      ∧ r.2.mem ((c.tc : Thread nD τ).loc main_v24) = tensorOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 :=
  (θ_run defs _ _).mono (fun r h => ⟨fun c => h c, sem_eq_zero_of_no_sems (by decide) r.2⟩) (Value.run (F := Ideal) m ρ)

end Cert.Chamfer.Ref

end
-- ==== Proof.Value.lean ====
/- The kernel's results are the reference's, for finite points. -/
module

public import proofs.«01_k».proof.Pre_finite
public import proofs.«01_k».proof.Proof.Run
public import proofs.«01_k».proof.Proof.Point
public import proofs.«01_k».proof.Proof.Entry
public import proofs.«01_k».proof.Proof.Reference

@[expose] public section

set_option maxRecDepth 16384

noncomputable section

namespace Cert.Chamfer

open Cert.KernelIdeal Cert.KernelIdeal.Gen Cert.KernelIdeal.Facts
open Idealize.ShloMosaic Idealize.ShloMosaic.TcCoe Idealize.SL.Sem

/-- Every coordinate is a real number. -/
def Finite (X : FVec Ideal S2x5x2048x3 .f32) : Prop := ∃ x : S2x5x2048x3.Idx → ℝ, X = fun i => (x i : EReal)

/-- A coordinate whose absolute value is below plus infinity is a real number. -/
theorem coe_of_abs_lt (x : EReal) (h : max x (-x) < ⊤) : ((x.toReal : ℝ) : EReal) = x :=
  EReal.coe_toReal (fun e => by subst e; simp at h) (fun e => by subst e; simp at h)

/-- What the precondition's test says of an array. -/
theorem finite_of_test [Cert.Pre_finite.Facts] (X : FVec Ideal S2x5x2048x3 .f32)
    (h : cmpf .olt (Host.absf X) (broadcastInDim S2x5x2048x3 ![] Cert.Pre_finite.Facts.bcast_S_S2x5x2048x3
      (constant Cert.Pre_finite.S_ .f32 0x7F800000#32)) = (fun _ => 1#1)) : Finite X := by
  refine ⟨fun i => (X i).toReal, funext fun i => (coe_of_abs_lt (X i) ?_).symm⟩
  have h := congrFun h i
  pointwise at h
  rw [ofBits_inf] at h
  by_contra hn
  have hn : ¬ (FloatOps.absf (X i) < (⊤ : EReal)) := hn
  rw [decide_eq_false hn] at h
  exact absurd h (by decide)

section Terms

variable (X Y : FVec Ideal S2x5x2048x3 .f32) (b : Fin 2) (s : Fin 5)

/-- The first cloud's points: the least of the kernel's terms, cut at zero, is the least squared distance. -/
theorem row_eq (hX : Finite X) (hY : Finite Y) (i : Fin 2048) :
    max ((Finset.univ.inf fun j : Fin 2048 => (∑ d : Fin 3, scaled X (ix3 (pair b s) d i) * swapped Y (ix3 (pair b s) d j))
        + lengths Y (ix3 (pair b s) 0 j)) + lengths X (ix3 (pair b s) 0 i)) 0
      = Ref.rowMins (Ref.dists X Y) (ix3 b s i) := by
  rw [Ref.rowMins_apply]
  simp only [Ref.dists_apply, Ref.lengths_apply, scaled_apply, swapped_apply, lengths_apply, ofBits_neg_two, ofBits_two]
  obtain ⟨x, rfl⟩ := hX
  obtain ⟨y, rfl⟩ := hY
  rw [length_coe fun d => x (ix4 b s i d), inf_shift, ← length_coe fun d => x (ix4 b s i d)]
  refine Finset.inf_congr rfl fun j _ => ?_
  exact congrArg (max · 0) (dist_eq (fun d => x (ix4 b s i d)) (fun d => y (ix4 b s j d)))

/-- The second cloud's points, likewise. -/
theorem col_eq (hX : Finite X) (hY : Finite Y) (j : Fin 2048) :
    max ((Finset.univ.inf fun i : Fin 2048 => (∑ d : Fin 3, scaled X (ix3 (pair b s) d i) * swapped Y (ix3 (pair b s) d j))
        + lengths X (ix3 (pair b s) 0 i)) + lengths Y (ix3 (pair b s) 0 j)) 0
      = Ref.colMins (Ref.dists X Y) (ix3 b s j) := by
  rw [Ref.colMins_apply]
  simp only [Ref.dists_apply, Ref.lengths_apply, scaled_apply, swapped_apply, lengths_apply, ofBits_neg_two, ofBits_two]
  obtain ⟨x, rfl⟩ := hX
  obtain ⟨y, rfl⟩ := hY
  rw [length_coe fun d => y (ix4 b s j d), inf_shift, ← length_coe fun d => y (ix4 b s j d)]
  refine Finset.inf_congr rfl fun i _ => ?_
  exact congrArg (max · 0) (dist_eq' (fun d => x (ix4 b s i d)) (fun d => y (ix4 b s j d)))

/-- Least squared distances are not negative. -/
theorem rowMins_nonneg (i : Fin 2048) : 0 ≤ Ref.rowMins (Ref.dists X Y) (ix3 b s i) := by
  rw [Ref.rowMins_apply]
  exact Finset.le_inf fun j _ => by rw [Ref.dists_apply]; exact le_max_right _ _

theorem colMins_nonneg (j : Fin 2048) : 0 ≤ Ref.colMins (Ref.dists X Y) (ix3 b s j) := by
  rw [Ref.colMins_apply]
  exact Finset.le_inf fun i _ => by rw [Ref.dists_apply]; exact le_max_right _ _

end Terms

variable (m : (ℓ : Loc nD τ sig) → Buf (Elt Ideal) ℓ)

/-- The inner product a point of the grid takes of its two padded blocks. -/
theorem inner_eq (c : Dev nD) (t : Fin cfg0.N) (b : Fin 2) (s : Fin 5) (ht : (pair b s).val = t.val) (i j : Fin 2048) :
    inner (k0_pay1 (iblk m c 0 t)) (k0_pay2 (iblk m c 1 t)) i j
      = ∑ d : Fin 3, scaled (m ((c : Thread nD τ).loc main_arg0)) (ix3 (pair b s) d i)
          * swapped (m ((c : Thread nD τ).loc main_arg1)) (ix3 (pair b s) d j) := by
  rw [← padded_inner]
  unfold inner
  refine Finset.sum_congr rfl fun k _ => ?_
  rw [pay1_apply, pay2_apply, iblk0 m c t _ ht, iblk1 m c t _ ht, entry0, entry1]

theorem first_lengths (c : Dev nD) (t : Fin cfg0.N) (b : Fin 2) (s : Fin 5) (ht : (pair b s).val = t.val) (i : Fin 2048) :
    k0_pay3 (iblk m c 2 t) (ix1 i) = lengths (m ((c : Thread nD τ).loc main_arg0)) (ix3 (pair b s) 0 i) := by
  rw [pay3_apply, iblk2 m c t _ ht, entry2]

theorem second_lengths (c : Dev nD) (t : Fin cfg0.N) (b : Fin 2) (s : Fin 5) (ht : (pair b s).val = t.val) (j : Fin 2048) :
    k0_pay4 (iblk m c 3 t) (ix1 j) = lengths (m ((c : Thread nD τ).loc main_arg1)) (ix3 (pair b s) 0 j) := by
  rw [pay4_apply, iblk3 m c t _ ht, entry3]

/-- A grid point's number is the two sums of least squared distances of its pair of clouds. -/
theorem rowAt_eq (c : Dev nD) (hX : Finite (m ((c : Thread nD τ).loc main_arg0))) (hY : Finite (m ((c : Thread nD τ).loc main_arg1)))
    (t : Fin cfg0.N) (b : Fin 2) (s : Fin 5) (ht : (pair b s).val = t.val) :
    rowAt m c t = (∑ i : Fin 2048, Ref.rowMins (Ref.dists (m ((c : Thread nD τ).loc main_arg0)) (m ((c : Thread nD τ).loc main_arg1))) (ix3 b s i))
      + ∑ j : Fin 2048, Ref.colMins (Ref.dists (m ((c : Thread nD τ).loc main_arg0)) (m ((c : Thread nD τ).loc main_arg1))) (ix3 b s j) := by
  unfold rowAt
  rw [pointSum_eq]
  refine congrArg₂ (· + ·) (Finset.sum_congr rfl fun i _ => ?_) (Finset.sum_congr rfl fun j _ => ?_)
  · rw [← row_eq _ _ b s hX hY i]
    unfold rowTerm
    rw [first_lengths m c t b s ht]
    simp only [inner_eq m c t b s ht, second_lengths m c t b s ht]
  · rw [← col_eq _ _ b s hX hY j]
    unfold colTerm
    rw [second_lengths m c t b s ht]
    simp only [inner_eq m c t b s ht, first_lengths m c t b s ht]

/-- The lines after the call, at an index: the pair's row over 2048. -/
theorem tensorOf_apply (Z : FVec Ideal S10x1 .f32) (s : Fin 5) (b : Fin 2) :
    tensorOf (F := Ideal) Z (ix2 s b) = Ideal.div (Z (ix2 (pair b s) 0)) ((2048 : ℝ) : EReal) := by
  rw [← ofBits_2048]
  pointwise [tensorOf, pair]

/-- The second result. -/
theorem tensor_eq (c : Dev nD) (hX : Finite (m ((c : Thread nD τ).loc main_arg0))) (hY : Finite (m ((c : Thread nD τ).loc main_arg1))) :
    tensorOf (rows m c) = Ref.tensorOf (m ((c : Thread nD τ).loc main_arg0)) (m ((c : Thread nD τ).loc main_arg1)) := by
  funext y
  obtain ⟨s, b, rfl⟩ : ∃ (s : Fin 5) (b : Fin 2), y = ix2 s b := ⟨y 0, y 1, eq_ix2 y⟩
  rw [tensorOf_apply, Ref.tensorOf_apply, Ref.mean_apply, Ref.mean_apply,
    ← div_sums _ _ (fun i => rowMins_nonneg _ _ _ _ i) (fun j => colMins_nonneg _ _ _ _ j)]
  exact congrArg (fun v : EReal => Ideal.div v ((2048 : ℝ) : EReal)) (rowAt_eq m c hX hY _ b s rfl)

/-- The first result, from the second. -/
theorem means_eq (T : FVec Ideal S5x2 .f32) : meansOf (F := Ideal) T = Ref.meansOf T := rfl

end Cert.Chamfer

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Same
public import proofs.«01_k».proof.Proof.Value

@[expose] public section

noncomputable section

namespace Cert.Proof

open Idealize.ShloMosaic Idealize.SL.Sem

/-- The kernel's frame as written: its text is the idealization's, whose run holds for any float values. -/
theorem kernel_frame : Cert.quiescent_Kernel := by
  intro m ρ _
  rw [Cert.Same.tables, Cert.Same.mains]
  exact (θ_run Cert.KernelIdeal.defs _ _).mono (fun _ h => ⟨fun c => (h.1 c).2.2, h.2⟩) (Cert.Chamfer.run_values (F := Bits) m ρ)

/-- The kernel's frame over the extended reals. -/
theorem kernelIdeal_frame : Cert.quiescent_KernelIdeal := fun m ρ _ =>
  (θ_run Cert.KernelIdeal.defs _ _).mono (fun _ h => ⟨fun c => (h.1 c).2.2, h.2⟩) (Cert.Chamfer.run_values (F := Ideal) m ρ)

/-- The reference's frame. -/
theorem reference_frame : Cert.quiescent_ReferenceIdeal := fun m ρ _ =>
  (θ_run Cert.ReferenceIdeal.defs _ _).mono (fun _ h => ⟨fun c => (h.1 c).2.2, h.2⟩) (Cert.Chamfer.Ref.run_values m ρ)

/-- The two results, for finite points. -/
theorem values : Cert.algebraic_KernelIdeal_ReferenceIdeal_pre_finite := by
  intro m ρ m' ρ' hpre hagree
  refine ⟨fun c => Cert.Chamfer.meansOf (Cert.Chamfer.tensorOf (Cert.Chamfer.rows m c)), fun c => Cert.Chamfer.tensorOf (Cert.Chamfer.rows m c),
    (θ_run Cert.KernelIdeal.defs _ _).mono (fun _ h => h.1) (Cert.Chamfer.run_values (F := Ideal) m ρ),
    (θ_run Cert.ReferenceIdeal.defs _ _).mono (fun r h c => ?_) (Cert.Chamfer.Ref.run_values m' ρ')⟩
  obtain ⟨e0, e1, -⟩ := hagree c
  have hT := Cert.Chamfer.tensor_eq m c (Cert.Chamfer.finite_of_test _ (hpre c).1) (Cert.Chamfer.finite_of_test _ (hpre c).2)
  obtain ⟨h0, h1, h2⟩ := h.1 c
  rw [e0, e1, ← hT] at h0 h1
  exact ⟨h0.trans (Cert.Chamfer.means_eq _).symm, h1, h2⟩

theorem claim : Cert.Claim :=
  ⟨Cert.Kernel.Gen.facts, Cert.KernelIdeal.Gen.facts, Cert.ReferenceIdeal.Gen.facts, Cert.Pre_finite.Gen.facts,
    kernel_frame, kernelIdeal_frame, fun m ρ _ => kernelIdeal_frame m ρ trivial,
    reference_frame, fun m ρ _ => reference_frame m ρ trivial, trivial, values⟩

end Cert.Proof

end
